-- ==== Defs.lean ====
def Pre_Kernel (m : (ℓ : Loc Cert.Kernel.nD Cert.Kernel.τ Cert.Kernel.sig) → Buf (Elt Bits) ℓ) : Prop :=
  True

def Pre_Ordered (m : (ℓ : Loc Cert.Ordered.nD Cert.Ordered.τ Cert.Ordered.sig) → Buf (Elt Bits) ℓ) : Prop :=
  True

def Pre_OrderedIdeal (m : (ℓ : Loc Cert.OrderedIdeal.nD Cert.OrderedIdeal.τ Cert.OrderedIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_Ordered [hOrdered : Cert.Ordered.Facts] : Prop :=
  ∀ (m : (ℓ : Loc Cert.Ordered.nD Cert.Ordered.τ Cert.Ordered.sig) → Buf (Elt Bits) ℓ) (g : Dev Cert.Ordered.nD → PrngReg), Pre_Ordered m →
    θ_run (Cert.Ordered.defs (F := Bits)) (onTc (τ := Cert.Ordered.τ) (Cert.Ordered.main (F := Bits))) ⟨m, fun _ => 0, g⟩ (fun r => (∀ c : Dev Cert.Ordered.nD,
      r.2.mem ((c.tc : Thread Cert.Ordered.nD Cert.Ordered.τ).loc Cert.Ordered.main_arg0) = m ((c.tc : Thread Cert.Ordered.nD Cert.Ordered.τ).loc Cert.Ordered.main_arg0)
      ∧ r.2.mem ((c.tc : Thread Cert.Ordered.nD Cert.Ordered.τ).loc Cert.Ordered.main_arg1) = m ((c.tc : Thread Cert.Ordered.nD Cert.Ordered.τ).loc Cert.Ordered.main_arg1)
      ∧ r.2.mem ((c.tc : Thread Cert.Ordered.nD Cert.Ordered.τ).loc Cert.Ordered.main_arg2) = m ((c.tc : Thread Cert.Ordered.nD Cert.Ordered.τ).loc Cert.Ordered.main_arg2))
      ∧ r.2.sem = fun _ => 0)

def quiescent_OrderedIdeal [hOrderedIdeal : Cert.OrderedIdeal.Facts] : Prop :=
  ∀ (m : (ℓ : Loc Cert.OrderedIdeal.nD Cert.OrderedIdeal.τ Cert.OrderedIdeal.sig) → Buf (Elt Ideal) ℓ) (g : Dev Cert.OrderedIdeal.nD → PrngReg), Pre_OrderedIdeal m →
    θ_run (Cert.OrderedIdeal.defs (F := Ideal)) (onTc (τ := Cert.OrderedIdeal.τ) (Cert.OrderedIdeal.main (F := Ideal))) ⟨m, fun _ => 0, g⟩ (fun r => (∀ c : Dev Cert.OrderedIdeal.nD,
      r.2.mem ((c.tc : Thread Cert.OrderedIdeal.nD Cert.OrderedIdeal.τ).loc Cert.OrderedIdeal.main_arg0) = m ((c.tc : Thread Cert.OrderedIdeal.nD Cert.OrderedIdeal.τ).loc Cert.OrderedIdeal.main_arg0)
      ∧ r.2.mem ((c.tc : Thread Cert.OrderedIdeal.nD Cert.OrderedIdeal.τ).loc Cert.OrderedIdeal.main_arg1) = m ((c.tc : Thread Cert.OrderedIdeal.nD Cert.OrderedIdeal.τ).loc Cert.OrderedIdeal.main_arg1)
      ∧ r.2.mem ((c.tc : Thread Cert.OrderedIdeal.nD Cert.OrderedIdeal.τ).loc Cert.OrderedIdeal.main_arg2) = m ((c.tc : Thread Cert.OrderedIdeal.nD Cert.OrderedIdeal.τ).loc Cert.OrderedIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def bitexact_Kernel_Ordered [hKernel : Cert.Kernel.Facts] [hOrdered : Cert.Ordered.Facts] : Prop :=
  ∀ (m : (ℓ : Loc Cert.Kernel.nD Cert.Kernel.τ Cert.Kernel.sig) → Buf (Elt Bits) ℓ) (g : Dev Cert.Kernel.nD → PrngReg)
    (m' : (ℓ : Loc Cert.Ordered.nD Cert.Ordered.τ Cert.Ordered.sig) → Buf (Elt Bits) ℓ) (g' : Dev Cert.Ordered.nD → PrngReg), Pre_Kernel m →
    (∀ c : Dev Cert.Kernel.nD,
      m' ((c.tc : Thread Cert.Ordered.nD Cert.Ordered.τ).loc Cert.Ordered.main_arg0) = m ((c.tc : Thread Cert.Kernel.nD Cert.Kernel.τ).loc Cert.Kernel.main_arg0)
      ∧ m' ((c.tc : Thread Cert.Ordered.nD Cert.Ordered.τ).loc Cert.Ordered.main_arg1) = m ((c.tc : Thread Cert.Kernel.nD Cert.Kernel.τ).loc Cert.Kernel.main_arg1)
      ∧ m' ((c.tc : Thread Cert.Ordered.nD Cert.Ordered.τ).loc Cert.Ordered.main_arg2) = m ((c.tc : Thread Cert.Kernel.nD Cert.Kernel.τ).loc Cert.Kernel.main_arg2)) →
    ∃ (v0 : (c : Dev Cert.Kernel.nD) → Buf (Elt Bits) ((c.tc : Thread Cert.Kernel.nD Cert.Kernel.τ).loc Cert.Kernel.main_v22)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v22) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1)
          ∧ r.2.mem ((c.tc : Thread Cert.Kernel.nD Cert.Kernel.τ).loc Cert.Kernel.main_arg2) = m ((c.tc : Thread Cert.Kernel.nD Cert.Kernel.τ).loc Cert.Kernel.main_arg2))
      ∧ θ_run (Cert.Ordered.defs (F := Bits)) (onTc (τ := Cert.Ordered.τ) (Cert.Ordered.main (F := Bits))) ⟨m', fun _ => 0, g'⟩ (fun r => ∀ c : Dev Cert.Ordered.nD,
          r.2.mem ((c.tc : Thread Cert.Ordered.nD Cert.Ordered.τ).loc Cert.Ordered.main_v89) = v0 c
          ∧ r.2.mem ((c.tc : Thread Cert.Ordered.nD Cert.Ordered.τ).loc Cert.Ordered.main_arg0) = m' ((c.tc : Thread Cert.Ordered.nD Cert.Ordered.τ).loc Cert.Ordered.main_arg0)
          ∧ r.2.mem ((c.tc : Thread Cert.Ordered.nD Cert.Ordered.τ).loc Cert.Ordered.main_arg1) = m' ((c.tc : Thread Cert.Ordered.nD Cert.Ordered.τ).loc Cert.Ordered.main_arg1)
          ∧ r.2.mem ((c.tc : Thread Cert.Ordered.nD Cert.Ordered.τ).loc Cert.Ordered.main_arg2) = m' ((c.tc : Thread Cert.Ordered.nD Cert.Ordered.τ).loc Cert.Ordered.main_arg2))

def preserves_Ordered_OrderedIdeal : Prop :=
  True

def algebraic_OrderedIdeal_ReferenceIdeal [hOrderedIdeal : Cert.OrderedIdeal.Facts] [hReferenceIdeal : Cert.ReferenceIdeal.Facts] : Prop :=
  ∀ (m : (ℓ : Loc Cert.OrderedIdeal.nD Cert.OrderedIdeal.τ Cert.OrderedIdeal.sig) → Buf (Elt Ideal) ℓ) (g : Dev Cert.OrderedIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_OrderedIdeal m →
    (∀ c : Dev Cert.OrderedIdeal.nD,
      m' ((c.tc : Thread Cert.ReferenceIdeal.nD Cert.ReferenceIdeal.τ).loc Cert.ReferenceIdeal.main_arg0) = m ((c.tc : Thread Cert.OrderedIdeal.nD Cert.OrderedIdeal.τ).loc Cert.OrderedIdeal.main_arg0)
      ∧ m' ((c.tc : Thread Cert.ReferenceIdeal.nD Cert.ReferenceIdeal.τ).loc Cert.ReferenceIdeal.main_arg1) = m ((c.tc : Thread Cert.OrderedIdeal.nD Cert.OrderedIdeal.τ).loc Cert.OrderedIdeal.main_arg1)
      ∧ m' ((c.tc : Thread Cert.ReferenceIdeal.nD Cert.ReferenceIdeal.τ).loc Cert.ReferenceIdeal.main_arg2) = m ((c.tc : Thread Cert.OrderedIdeal.nD Cert.OrderedIdeal.τ).loc Cert.OrderedIdeal.main_arg2)) →
    ∃ (v0 : (c : Dev Cert.OrderedIdeal.nD) → Buf (Elt Ideal) ((c.tc : Thread Cert.OrderedIdeal.nD Cert.OrderedIdeal.τ).loc Cert.OrderedIdeal.main_v89)),
      θ_run (Cert.OrderedIdeal.defs (F := Ideal)) (onTc (τ := Cert.OrderedIdeal.τ) (Cert.OrderedIdeal.main (F := Ideal))) ⟨m, fun _ => 0, g⟩ (fun r => ∀ c : Dev Cert.OrderedIdeal.nD,
          r.2.mem ((c.tc : Thread Cert.OrderedIdeal.nD Cert.OrderedIdeal.τ).loc Cert.OrderedIdeal.main_v89) = v0 c
          ∧ r.2.mem ((c.tc : Thread Cert.OrderedIdeal.nD Cert.OrderedIdeal.τ).loc Cert.OrderedIdeal.main_arg0) = m ((c.tc : Thread Cert.OrderedIdeal.nD Cert.OrderedIdeal.τ).loc Cert.OrderedIdeal.main_arg0)
          ∧ r.2.mem ((c.tc : Thread Cert.OrderedIdeal.nD Cert.OrderedIdeal.τ).loc Cert.OrderedIdeal.main_arg1) = m ((c.tc : Thread Cert.OrderedIdeal.nD Cert.OrderedIdeal.τ).loc Cert.OrderedIdeal.main_arg1)
          ∧ r.2.mem ((c.tc : Thread Cert.OrderedIdeal.nD Cert.OrderedIdeal.τ).loc Cert.OrderedIdeal.main_arg2) = m ((c.tc : Thread Cert.OrderedIdeal.nD Cert.OrderedIdeal.τ).loc Cert.OrderedIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v85) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hOrdered : Cert.Ordered.Facts) (hOrderedIdeal : Cert.OrderedIdeal.Facts) (hReferenceIdeal : Cert.ReferenceIdeal.Facts),
    quiescent_Kernel (hKernel := hKernel)
    ∧ quiescent_Ordered (hOrdered := hOrdered)
    ∧ quiescent_OrderedIdeal (hOrderedIdeal := hOrderedIdeal)
    ∧ quiescent_ReferenceIdeal (hReferenceIdeal := hReferenceIdeal)
    ∧ bitexact_Kernel_Ordered (hKernel := hKernel) (hOrdered := hOrdered)
    ∧ preserves_Ordered_OrderedIdeal
    ∧ algebraic_OrderedIdeal_ReferenceIdeal (hOrderedIdeal := hOrderedIdeal) (hReferenceIdeal := hReferenceIdeal)
-- ==== Kernel.lean ====
abbrev S48x1x16384 : Shape := ⟨3, ![48, 1, 16384]⟩
abbrev S8192x8192 : Shape := ⟨2, ![8192, 8192]⟩
abbrev S256x8192 : Shape := ⟨2, ![256, 8192]⟩
abbrev S16 : Shape := ⟨1, ![16]⟩
abbrev S48x256x8x2x4 : Shape := ⟨5, ![48, 256, 8, 2, 4]⟩
abbrev S48x256x4x8x2 : Shape := ⟨5, ![48, 256, 4, 8, 2]⟩
abbrev S48x16384 : Shape := ⟨2, ![48, 16384]⟩
abbrev S16x1 : Shape := ⟨2, ![16, 1]⟩
abbrev S16x128 : Shape := ⟨2, ![16, 128]⟩
abbrev S32 : Shape := ⟨1, ![32]⟩
abbrev S_ : Shape := ⟨0, ![]⟩
abbrev S32x1 : Shape := ⟨2, ![32, 1]⟩
abbrev S32x128 : Shape := ⟨2, ![32, 128]⟩
abbrev S48x8192 : Shape := ⟨2, ![48, 8192]⟩
abbrev S8192x512 : Shape := ⟨2, ![8192, 512]⟩
abbrev S256x512 : Shape := ⟨2, ![256, 512]⟩
abbrev S48x512 : Shape := ⟨2, ![48, 512]⟩
abbrev S8x128 : Shape := ⟨2, ![8, 128]⟩
abbrev S48x256 : Shape := ⟨2, ![48, 256]⟩
abbrev S1x128 : Shape := ⟨2, ![1, 128]⟩
abbrev S8x128x1 : Shape := ⟨3, ![8, 128, 1]⟩
abbrev S64x128 : Shape := ⟨2, ![64, 128]⟩
abbrev S64x256 : Shape := ⟨2, ![64, 256]⟩
abbrev S256x256 : Shape := ⟨2, ![256, 256]⟩

abbrev nBuf : Space → Nat
  | .hbm => 89
  | .vmem => 10
  | .smem => 0
  | _ => 0

abbrev bufTy : (tb : Table) → Fin (tcTables nBuf tb) → BufTy
  | .hbm, ⟨0, _⟩ => ⟨S48x1x16384, .bf16⟩
  | .hbm, ⟨1, _⟩ => ⟨S8192x8192, .i8⟩
  | .hbm, ⟨2, _⟩ => ⟨S256x8192, .f32⟩
  | .hbm, ⟨3, _⟩ => ⟨S16, .f32⟩
  | .hbm, ⟨4, _⟩ => ⟨S48x256x8x2x4, .bf16⟩
  | .hbm, ⟨5, _⟩ => ⟨S48x256x4x8x2, .bf16⟩
  | .hbm, ⟨6, _⟩ => ⟨S48x16384, .bf16⟩
  | .hbm, ⟨7, _⟩ => ⟨S16x1, .f32⟩
  | .hbm, ⟨8, _⟩ => ⟨S16x128, .f32⟩
  | .hbm, ⟨9, _⟩ => ⟨S32, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i1⟩
  | .hbm, ⟨14, _⟩ => ⟨S_, .i32⟩
  | .hbm, ⟨15, _⟩ => ⟨S_, .i32⟩
  | .hbm, ⟨16, _⟩ => ⟨S32, .i32⟩
  | .hbm, ⟨17, _⟩ => ⟨S32, .i32⟩
  | .hbm, ⟨18, _⟩ => ⟨S_, .i32⟩
  | .hbm, ⟨19, _⟩ => ⟨S32, .i32⟩
  | .hbm, ⟨20, _⟩ => ⟨S32, .i1⟩
  | .hbm, ⟨21, _⟩ => ⟨S_, .i32⟩
  | .hbm, ⟨22, _⟩ => ⟨S32, .i32⟩
  | .hbm, ⟨23, _⟩ => ⟨S32, .i1⟩
  | .hbm, ⟨24, _⟩ => ⟨S_, .i32⟩
  | .hbm, ⟨25, _⟩ => ⟨S_, .i1⟩
  | .hbm, ⟨26, _⟩ => ⟨S32, .i1⟩
  | .hbm, ⟨27, _⟩ => ⟨S32, .i1⟩
  | .hbm, ⟨28, _⟩ => ⟨S32, .i1⟩
  | .hbm, ⟨29, _⟩ => ⟨S32, .i32⟩
  | .hbm, ⟨30, _⟩ => ⟨S32, .i32⟩
  | .hbm, ⟨31, _⟩ => ⟨S32, .i32⟩
  | .hbm, ⟨32, _⟩ => ⟨S_, .i32⟩
  | .hbm, ⟨33, _⟩ => ⟨S_, .i32⟩
  | .hbm, ⟨34, _⟩ => ⟨S_, .i32⟩
  | .hbm, ⟨35, _⟩ => ⟨S_, .i1⟩
  | .hbm, ⟨36, _⟩ => ⟨S_, .i32⟩
  | .hbm, ⟨37, _⟩ => ⟨S_, .i32⟩
  | .hbm, ⟨38, _⟩ => ⟨S32, .i32⟩
  | .hbm, ⟨39, _⟩ => ⟨S32, .i32⟩
  | .hbm, ⟨40, _⟩ => ⟨S_, .i32⟩
  | .hbm, ⟨41, _⟩ => ⟨S32, .i32⟩
  | .hbm, ⟨42, _⟩ => ⟨S32, .i1⟩
  | .hbm, ⟨43, _⟩ => ⟨S_, .i32⟩
  | .hbm, ⟨44, _⟩ => ⟨S32, .i32⟩
  | .hbm, ⟨45, _⟩ => ⟨S32, .i1⟩
  | .hbm, ⟨46, _⟩ => ⟨S_, .i32⟩
  | .hbm, ⟨47, _⟩ => ⟨S_, .i1⟩
  | .hbm, ⟨48, _⟩ => ⟨S32, .i1⟩
  | .hbm, ⟨49, _⟩ => ⟨S32, .i1⟩
  | .hbm, ⟨50, _⟩ => ⟨S32, .i1⟩
  | .hbm, ⟨51, _⟩ => ⟨S32, .i32⟩
  | .hbm, ⟨52, _⟩ => ⟨S32, .i32⟩
  | .hbm, ⟨53, _⟩ => ⟨S32, .i32⟩
  | .hbm, ⟨54, _⟩ => ⟨S_, .i32⟩
  | .hbm, ⟨55, _⟩ => ⟨S32, .i32⟩
  | .hbm, ⟨56, _⟩ => ⟨S32, .i32⟩
  | .hbm, ⟨57, _⟩ => ⟨S_, .i32⟩
  | .hbm, ⟨58, _⟩ => ⟨S_, .i32⟩
  | .hbm, ⟨59, _⟩ => ⟨S32, .i32⟩
  | .hbm, ⟨60, _⟩ => ⟨S32, .i32⟩
  | .hbm, ⟨61, _⟩ => ⟨S32, .i32⟩
  | .hbm, ⟨62, _⟩ => ⟨S_, .i32⟩
  | .hbm, ⟨63, _⟩ => ⟨S32, .i32⟩
  | .hbm, ⟨64, _⟩ => ⟨S32, .i1⟩
  | .hbm, ⟨65, _⟩ => ⟨S32, .i32⟩
  | .hbm, ⟨66, _⟩ => ⟨S32, .i32⟩
  | .hbm, ⟨67, _⟩ => ⟨S_, .i32⟩
  | .hbm, ⟨68, _⟩ => ⟨S32, .i32⟩
  | .hbm, ⟨69, _⟩ => ⟨S32, .i1⟩
  | .hbm, ⟨70, _⟩ => ⟨S32, .i1⟩
  | .hbm, ⟨71, _⟩ => ⟨S_, .i32⟩
  | .hbm, ⟨72, _⟩ => ⟨S32, .i32⟩
  | .hbm, ⟨73, _⟩ => ⟨S32, .i32⟩
  | .hbm, ⟨74, _⟩ => ⟨S32, .i32⟩
  | .hbm, ⟨75, _⟩ => ⟨S_, .i32⟩
  | .hbm, ⟨76, _⟩ => ⟨S32, .i32⟩
  | .hbm, ⟨77, _⟩ => ⟨S32, .i32⟩
  | .hbm, ⟨78, _⟩ => ⟨S32, .i32⟩
  | .hbm, ⟨79, _⟩ => ⟨S32, .i8⟩
  | .hbm, ⟨80, _⟩ => ⟨S32x1, .i8⟩
  | .hbm, ⟨81, _⟩ => ⟨S32x128, .i8⟩
  | .hbm, ⟨82, _⟩ => ⟨S_, .i32⟩
  | .hbm, ⟨83, _⟩ => ⟨S32, .i32⟩
  | .hbm, ⟨84, _⟩ => ⟨S32, .i32⟩
  | .hbm, ⟨85, _⟩ => ⟨S32, .i8⟩
  | .hbm, ⟨86, _⟩ => ⟨S32x1, .i8⟩
  | .hbm, ⟨87, _⟩ => ⟨S32x128, .i8⟩
  | .hbm, ⟨88, _⟩ => ⟨S48x8192, .bf16⟩
  | .local _ .vmem, ⟨0, _⟩ => ⟨S48x16384, .bf16⟩
  | .local _ .vmem, ⟨1, _⟩ => ⟨S16x128, .f32⟩
  | .local _ .vmem, ⟨2, _⟩ => ⟨S32x128, .i8⟩
  | .local _ .vmem, ⟨3, _⟩ => ⟨S32x128, .i8⟩
  | .local _ .vmem, ⟨4, _⟩ => ⟨S8192x512, .i8⟩
  | .local _ .vmem, ⟨5, _⟩ => ⟨S8192x512, .i8⟩
  | .local _ .vmem, ⟨6, _⟩ => ⟨S256x512, .f32⟩
  | .local _ .vmem, ⟨7, _⟩ => ⟨S256x512, .f32⟩
  | .local _ .vmem, ⟨8, _⟩ => ⟨S48x512, .bf16⟩
  | .local _ .vmem, ⟨9, _⟩ => ⟨S48x512, .bf16⟩
  | _, _ => ⟨S48x1x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c : Ref sig .tc := ⟨.hbm, 10, rfl⟩
abbrev main_call0_v0 : Ref sig .tc := ⟨.hbm, 11, rfl⟩
abbrev main_call0_c : Ref sig .tc := ⟨.hbm, 12, rfl⟩
abbrev main_call0_v1 : Ref sig .tc := ⟨.hbm, 13, rfl⟩
abbrev main_call0_c_0 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_c_1 : Ref sig .tc := ⟨.hbm, 18, rfl⟩
abbrev main_call0_v5 : Ref sig .tc := ⟨.hbm, 19, rfl⟩
abbrev main_call0_v6 : Ref sig .tc := ⟨.hbm, 20, rfl⟩
abbrev main_call0_c_2 : Ref sig .tc := ⟨.hbm, 21, rfl⟩
abbrev main_call0_v7 : Ref sig .tc := ⟨.hbm, 22, rfl⟩
abbrev main_call0_v8 : Ref sig .tc := ⟨.hbm, 23, rfl⟩
abbrev main_call0_c_3 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_v12 : Ref sig .tc := ⟨.hbm, 28, rfl⟩
abbrev main_call0_v13 : Ref sig .tc := ⟨.hbm, 29, rfl⟩
abbrev main_call0_v14 : Ref sig .tc := ⟨.hbm, 30, rfl⟩
abbrev main_v6 : Ref sig .tc := ⟨.hbm, 31, rfl⟩
abbrev main_c_0 : Ref sig .tc := ⟨.hbm, 32, rfl⟩
abbrev main_call1_v0 : Ref sig .tc := ⟨.hbm, 33, rfl⟩
abbrev main_call1_c : Ref sig .tc := ⟨.hbm, 34, rfl⟩
abbrev main_call1_v1 : Ref sig .tc := ⟨.hbm, 35, rfl⟩
abbrev main_call1_c_0 : Ref sig .tc := ⟨.hbm, 36, rfl⟩
abbrev main_call1_v2 : Ref sig .tc := ⟨.hbm, 37, rfl⟩
abbrev main_call1_v3 : Ref sig .tc := ⟨.hbm, 38, rfl⟩
abbrev main_call1_v4 : Ref sig .tc := ⟨.hbm, 39, rfl⟩
abbrev main_call1_c_1 : Ref sig .tc := ⟨.hbm, 40, rfl⟩
abbrev main_call1_v5 : Ref sig .tc := ⟨.hbm, 41, rfl⟩
abbrev main_call1_v6 : Ref sig .tc := ⟨.hbm, 42, rfl⟩
abbrev main_call1_c_2 : Ref sig .tc := ⟨.hbm, 43, rfl⟩
abbrev main_call1_v7 : Ref sig .tc := ⟨.hbm, 44, rfl⟩
abbrev main_call1_v8 : Ref sig .tc := ⟨.hbm, 45, rfl⟩
abbrev main_call1_c_3 : Ref sig .tc := ⟨.hbm, 46, rfl⟩
abbrev main_call1_v9 : Ref sig .tc := ⟨.hbm, 47, rfl⟩
abbrev main_call1_v10 : Ref sig .tc := ⟨.hbm, 48, rfl⟩
abbrev main_call1_v11 : Ref sig .tc := ⟨.hbm, 49, rfl⟩
abbrev main_call1_v12 : Ref sig .tc := ⟨.hbm, 50, rfl⟩
abbrev main_call1_v13 : Ref sig .tc := ⟨.hbm, 51, rfl⟩
abbrev main_call1_v14 : Ref sig .tc := ⟨.hbm, 52, rfl⟩
abbrev main_v7 : Ref sig .tc := ⟨.hbm, 53, rfl⟩
abbrev main_c_1 : Ref sig .tc := ⟨.hbm, 54, rfl⟩
abbrev main_v8 : Ref sig .tc := ⟨.hbm, 55, rfl⟩
abbrev main_v9 : Ref sig .tc := ⟨.hbm, 56, rfl⟩
abbrev main_c_2 : Ref sig .tc := ⟨.hbm, 57, rfl⟩
abbrev main_call2_v0 : Ref sig .tc := ⟨.hbm, 58, rfl⟩
abbrev main_call2_v1 : Ref sig .tc := ⟨.hbm, 59, rfl⟩
abbrev main_call2_v2 : Ref sig .tc := ⟨.hbm, 60, rfl⟩
abbrev main_call2_v3 : Ref sig .tc := ⟨.hbm, 61, rfl⟩
abbrev main_call2_v4 : Ref sig .tc := ⟨.hbm, 62, rfl⟩
abbrev main_call2_v5 : Ref sig .tc := ⟨.hbm, 63, rfl⟩
abbrev main_call2_v6 : Ref sig .tc := ⟨.hbm, 64, rfl⟩
abbrev main_call2_v7 : Ref sig .tc := ⟨.hbm, 65, rfl⟩
abbrev main_call2_v8 : Ref sig .tc := ⟨.hbm, 66, rfl⟩
abbrev main_call2_c : Ref sig .tc := ⟨.hbm, 67, rfl⟩
abbrev main_call2_v9 : Ref sig .tc := ⟨.hbm, 68, rfl⟩
abbrev main_call2_v10 : Ref sig .tc := ⟨.hbm, 69, rfl⟩
abbrev main_call2_v11 : Ref sig .tc := ⟨.hbm, 70, rfl⟩
abbrev main_call2_c_0 : Ref sig .tc := ⟨.hbm, 71, rfl⟩
abbrev main_call2_v12 : Ref sig .tc := ⟨.hbm, 72, rfl⟩
abbrev main_call2_v13 : Ref sig .tc := ⟨.hbm, 73, rfl⟩
abbrev main_v10 : Ref sig .tc := ⟨.hbm, 74, rfl⟩
abbrev main_c_3 : Ref sig .tc := ⟨.hbm, 75, rfl⟩
abbrev main_v11 : Ref sig .tc := ⟨.hbm, 76, rfl⟩
abbrev main_v12 : Ref sig .tc := ⟨.hbm, 77, rfl⟩
abbrev main_v13 : Ref sig .tc := ⟨.hbm, 78, rfl⟩
abbrev main_v14 : Ref sig .tc := ⟨.hbm, 79, rfl⟩
abbrev main_v15 : Ref sig .tc := ⟨.hbm, 80, rfl⟩
abbrev main_v16 : Ref sig .tc := ⟨.hbm, 81, rfl⟩
abbrev main_c_4 : Ref sig .tc := ⟨.hbm, 82, rfl⟩
abbrev main_v17 : Ref sig .tc := ⟨.hbm, 83, rfl⟩
abbrev main_v18 : Ref sig .tc := ⟨.hbm, 84, rfl⟩
abbrev main_v19 : Ref sig .tc := ⟨.hbm, 85, rfl⟩
abbrev main_v20 : Ref sig .tc := ⟨.hbm, 86, rfl⟩
abbrev main_v21 : Ref sig .tc := ⟨.hbm, 87, rfl⟩
abbrev main_v22 : Ref sig .tc := ⟨.hbm, 88, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [BitOps F]

abbrev grid0 : Pipeline.Grid := ⟨1, ![16], ![false]⟩

@[reducible] def k0_t1_loop : Scf.Loop 32 :=
  let c0_i32 : BitVec 32 := 0#32
  let c64_i32 : BitVec 32 := 64#32
  let v14 : BitVec 32 := Scalar.addi c0_i32 c64_i32
  let c1_i32_7 : BitVec 32 := 1#32
  ⟨c0_i32, v14, c1_i32_7⟩
def k0_mult1 (k0_t1 : Fin k0_t1_loop.trips) : BitVec 32 :=
  let c0_i32 : BitVec 32 := 0#32
  let c1_i32_7 : BitVec 32 := 1#32
  let arg8 : BitVec 32 := Scf.iv c0_i32 c1_i32_7 k0_t1
  let c4_i32 : BitVec 32 := 4#32
  let v23 : BitVec 32 := Scalar.muli arg8 c4_i32
  v23
def k0_mult2 (k0_t1 : Fin k0_t1_loop.trips) : BitVec 32 :=
  let c0_i32 : BitVec 32 := 0#32
  let c1_i32_7 : BitVec 32 := 1#32
  let arg8 : BitVec 32 := Scf.iv c0_i32 c1_i32_7 k0_t1
  let c4_i32 : BitVec 32 := 4#32
  let v23 : BitVec 32 := Scalar.muli arg8 c4_i32
  let v24 : BitVec 32 := v23
  let c0_i32_17 : BitVec 32 := 0#32
  let v25 : BitVec 32 := Scalar.addi v24 c0_i32_17
  let c32_i32 : BitVec 32 := 32#32
  let v26 : BitVec 32 := Scalar.muli v25 c32_i32
  v26
def k0_off1 (k0_t1 : Fin k0_t1_loop.trips) (c0_i32_17 : BitVec 32) : Fin 2 → Nat :=
  let c0_i32 : BitVec 32 := 0#32
  let c1_i32_7 : BitVec 32 := 1#32
  let arg8 : BitVec 32 := Scf.iv c0_i32 c1_i32_7 k0_t1
  let c4_i32 : BitVec 32 := 4#32
  let v23 : BitVec 32 := Scalar.muli arg8 c4_i32
  let v24 : BitVec 32 := v23
  let v25 : BitVec 32 := Scalar.addi v24 c0_i32_17
  let c32_i32 : BitVec 32 := 32#32
  let v26 : BitVec 32 := Scalar.muli v25 c32_i32
  let v27 : BitVec 32 := v26
  let v28 : Index := Scalar.indexCast v27
  let c0_18 : Index := 0#32
  ![v28.toNat, 0]
def k0_off2 (k0_t1 : Fin k0_t1_loop.trips) (c0_i32_17 : BitVec 32) : Fin 2 → Nat :=
  let c0_i32 : BitVec 32 := 0#32
  let c1_i32_7 : BitVec 32 := 1#32
  let arg8 : BitVec 32 := Scf.iv c0_i32 c1_i32_7 k0_t1
  let c4_i32 : BitVec 32 := 4#32
  let v23 : BitVec 32 := Scalar.muli arg8 c4_i32
  let v24 : BitVec 32 := v23
  let v25 : BitVec 32 := Scalar.addi v24 c0_i32_17
  let v31 : Index := Scalar.indexCast v25
  let c0_19 : Index := 0#32
  ![v31.toNat, 0]
def k0_mult3 (k0_t1 : Fin k0_t1_loop.trips) : BitVec 32 :=
  let c0_i32 : BitVec 32 := 0#32
  let c1_i32_7 : BitVec 32 := 1#32
  let arg8 : BitVec 32 := Scf.iv c0_i32 c1_i32_7 k0_t1
  let c4_i32 : BitVec 32 := 4#32
  let v23 : BitVec 32 := Scalar.muli arg8 c4_i32
  let v24 : BitVec 32 := v23
  let c0_i32_17 : BitVec 32 := 0#32
  let v25 : BitVec 32 := Scalar.addi v24 c0_i32_17
  let c32_i32_189 : BitVec 32 := 32#32
  let v548 : BitVec 32 := Scalar.muli v25 c32_i32_189
  v548
def k0_off3 (k0_t1 : Fin k0_t1_loop.trips) (c0_i32_17 : BitVec 32) : Fin 2 → Nat :=
  let c0_i32 : BitVec 32 := 0#32
  let c1_i32_7 : BitVec 32 := 1#32
  let arg8 : BitVec 32 := Scf.iv c0_i32 c1_i32_7 k0_t1
  let c4_i32 : BitVec 32 := 4#32
  let v23 : BitVec 32 := Scalar.muli arg8 c4_i32
  let v24 : BitVec 32 := v23
  let v25 : BitVec 32 := Scalar.addi v24 c0_i32_17
  let c32_i32_189 : BitVec 32 := 32#32
  let v548 : BitVec 32 := Scalar.muli v25 c32_i32_189
  let v549 : BitVec 32 := v548
  let v550 : Index := Scalar.indexCast v549
  let c128 : Index := 128#32
  ![v550.toNat, 128]
def k0_off4 (k0_t1 : Fin k0_t1_loop.trips) (c0_i32_17 : BitVec 32) : Fin 2 → Nat :=
  let c0_i32 : BitVec 32 := 0#32
  let c1_i32_7 : BitVec 32 := 1#32
  let arg8 : BitVec 32 := Scf.iv c0_i32 c1_i32_7 k0_t1
  let c4_i32 : BitVec 32 := 4#32
  let v23 : BitVec 32 := Scalar.muli arg8 c4_i32
  let v24 : BitVec 32 := v23
  let v25 : BitVec 32 := Scalar.addi v24 c0_i32_17
  let v553 : Index := Scalar.indexCast v25
  let c128_190 : Index := 128#32
  ![v553.toNat, 128]
def k0_mult4 (k0_t1 : Fin k0_t1_loop.trips) : BitVec 32 :=
  let c0_i32 : BitVec 32 := 0#32
  let c1_i32_7 : BitVec 32 := 1#32
  let arg8 : BitVec 32 := Scf.iv c0_i32 c1_i32_7 k0_t1
  let c4_i32_368 : BitVec 32 := 4#32
  let v1071 : BitVec 32 := Scalar.muli arg8 c4_i32_368
  v1071
def k0_mult5 (k0_t1 : Fin k0_t1_loop.trips) : BitVec 32 :=
  let c0_i32 : BitVec 32 := 0#32
  let c1_i32_7 : BitVec 32 := 1#32
  let arg8 : BitVec 32 := Scf.iv c0_i32 c1_i32_7 k0_t1
  let c4_i32_368 : BitVec 32 := 4#32
  let v1071 : BitVec 32 := Scalar.muli arg8 c4_i32_368
  let v1072 : BitVec 32 := v1071
  let c1_i32_369 : BitVec 32 := 1#32
  let v1073 : BitVec 32 := Scalar.addi v1072 c1_i32_369
  let c32_i32_370 : BitVec 32 := 32#32
  let v1074 : BitVec 32 := Scalar.muli v1073 c32_i32_370
  v1074
def k0_mult6 (k0_t1 : Fin k0_t1_loop.trips) : BitVec 32 :=
  let c0_i32 : BitVec 32 := 0#32
  let c1_i32_7 : BitVec 32 := 1#32
  let arg8 : BitVec 32 := Scf.iv c0_i32 c1_i32_7 k0_t1
  let c4_i32_368 : BitVec 32 := 4#32
  let v1071 : BitVec 32 := Scalar.muli arg8 c4_i32_368
  let v1072 : BitVec 32 := v1071
  let c1_i32_369 : BitVec 32 := 1#32
  let v1073 : BitVec 32 := Scalar.addi v1072 c1_i32_369
  let c32_i32_550 : BitVec 32 := 32#32
  let v1596 : BitVec 32 := Scalar.muli v1073 c32_i32_550
  v1596
def k0_mult7 (k0_t1 : Fin k0_t1_loop.trips) : BitVec 32 :=
  let c0_i32 : BitVec 32 := 0#32
  let c1_i32_7 : BitVec 32 := 1#32
  let arg8 : BitVec 32 := Scf.iv c0_i32 c1_i32_7 k0_t1
  let c4_i32_730 : BitVec 32 := 4#32
  let v2119 : BitVec 32 := Scalar.muli arg8 c4_i32_730
  v2119
def k0_mult8 (k0_t1 : Fin k0_t1_loop.trips) : BitVec 32 :=
  let c0_i32 : BitVec 32 := 0#32
  let c1_i32_7 : BitVec 32 := 1#32
  let arg8 : BitVec 32 := Scf.iv c0_i32 c1_i32_7 k0_t1
  let c4_i32_730 : BitVec 32 := 4#32
  let v2119 : BitVec 32 := Scalar.muli arg8 c4_i32_730
  let v2120 : BitVec 32 := v2119
  let c2_i32_731 : BitVec 32 := 2#32
  let v2121 : BitVec 32 := Scalar.addi v2120 c2_i32_731
  let c32_i32_732 : BitVec 32 := 32#32
  let v2122 : BitVec 32 := Scalar.muli v2121 c32_i32_732
  v2122
def k0_mult9 (k0_t1 : Fin k0_t1_loop.trips) : BitVec 32 :=
  let c0_i32 : BitVec 32 := 0#32
  let c1_i32_7 : BitVec 32 := 1#32
  let arg8 : BitVec 32 := Scf.iv c0_i32 c1_i32_7 k0_t1
  let c4_i32_730 : BitVec 32 := 4#32
  let v2119 : BitVec 32 := Scalar.muli arg8 c4_i32_730
  let v2120 : BitVec 32 := v2119
  let c2_i32_731 : BitVec 32 := 2#32
  let v2121 : BitVec 32 := Scalar.addi v2120 c2_i32_731
  let c32_i32_912 : BitVec 32 := 32#32
  let v2644 : BitVec 32 := Scalar.muli v2121 c32_i32_912
  v2644
def k0_mult10 (k0_t1 : Fin k0_t1_loop.trips) : BitVec 32 :=
  let c0_i32 : BitVec 32 := 0#32
  let c1_i32_7 : BitVec 32 := 1#32
  let arg8 : BitVec 32 := Scf.iv c0_i32 c1_i32_7 k0_t1
  let c4_i32_1092 : BitVec 32 := 4#32
  let v3167 : BitVec 32 := Scalar.muli arg8 c4_i32_1092
  v3167
def k0_mult11 (k0_t1 : Fin k0_t1_loop.trips) : BitVec 32 :=
  let c0_i32 : BitVec 32 := 0#32
  let c1_i32_7 : BitVec 32 := 1#32
  let arg8 : BitVec 32 := Scf.iv c0_i32 c1_i32_7 k0_t1
  let c4_i32_1092 : BitVec 32 := 4#32
  let v3167 : BitVec 32 := Scalar.muli arg8 c4_i32_1092
  let v3168 : BitVec 32 := v3167
  let c3_i32_1093 : BitVec 32 := 3#32
  let v3169 : BitVec 32 := Scalar.addi v3168 c3_i32_1093
  let c32_i32_1094 : BitVec 32 := 32#32
  let v3170 : BitVec 32 := Scalar.muli v3169 c32_i32_1094
  v3170
def k0_mult12 (k0_t1 : Fin k0_t1_loop.trips) : BitVec 32 :=
  let c0_i32 : BitVec 32 := 0#32
  let c1_i32_7 : BitVec 32 := 1#32
  let arg8 : BitVec 32 := Scf.iv c0_i32 c1_i32_7 k0_t1
  let c4_i32_1092 : BitVec 32 := 4#32
  let v3167 : BitVec 32 := Scalar.muli arg8 c4_i32_1092
  let v3168 : BitVec 32 := v3167
  let c3_i32_1093 : BitVec 32 := 3#32
  let v3169 : BitVec 32 := Scalar.addi v3168 c3_i32_1093
  let c32_i32_1274 : BitVec 32 := 32#32
  let v3692 : BitVec 32 := Scalar.muli v3169 c32_i32_1274
  v3692
def k0_mult13 (k0_t1 : Fin k0_t1_loop.trips) : BitVec 32 :=
  let c0_i32 : BitVec 32 := 0#32
  let c1_i32_7 : BitVec 32 := 1#32
  let arg8 : BitVec 32 := Scf.iv c0_i32 c1_i32_7 k0_t1
  let c256_i32 : BitVec 32 := 256#32
  let v4216 : BitVec 32 := Scalar.muli arg8 c256_i32
  v4216
def k0_off5 (k0_t1 : Fin k0_t1_loop.trips) : Fin 2 → Nat :=
  let c0_1454 : Index := 0#32
  let c0_i32 : BitVec 32 := 0#32
  let c1_i32_7 : BitVec 32 := 1#32
  let arg8 : BitVec 32 := Scf.iv c0_i32 c1_i32_7 k0_t1
  let c256_i32 : BitVec 32 := 256#32
  let v4216 : BitVec 32 := Scalar.muli arg8 c256_i32
  let v4217 : BitVec 32 := v4216
  let v4218 : Index := Scalar.indexCast v4217
  ![0, v4218.toNat]
@[reducible] def k0_t2_loop : Scf.Loop 32 :=
  let c0_i32_12 : BitVec 32 := 0#32
  let c64_i32_13 : BitVec 32 := 64#32
  let v19 : BitVec 32 := Scalar.addi c0_i32_12 c64_i32_13
  let c1_i32_14 : BitVec 32 := 1#32
  ⟨c0_i32_12, v19, c1_i32_14⟩
def k0_mult14 (k0_t2 : Fin k0_t2_loop.trips) : BitVec 32 :=
  let c0_i32_12 : BitVec 32 := 0#32
  let c1_i32_14 : BitVec 32 := 1#32
  let arg8 : BitVec 32 := Scf.iv c0_i32_12 c1_i32_14 k0_t2
  let c4_i32 : BitVec 32 := 4#32
  let v23 : BitVec 32 := Scalar.muli arg8 c4_i32
  v23
def k0_mult15 (k0_t2 : Fin k0_t2_loop.trips) : BitVec 32 :=
  let c0_i32_12 : BitVec 32 := 0#32
  let c1_i32_14 : BitVec 32 := 1#32
  let arg8 : BitVec 32 := Scf.iv c0_i32_12 c1_i32_14 k0_t2
  let c4_i32 : BitVec 32 := 4#32
  let v23 : BitVec 32 := Scalar.muli arg8 c4_i32
  let v24 : BitVec 32 := v23
  let c0_i32_17 : BitVec 32 := 0#32
  let v25 : BitVec 32 := Scalar.addi v24 c0_i32_17
  let c32_i32 : BitVec 32 := 32#32
  let v26 : BitVec 32 := Scalar.muli v25 c32_i32
  v26
def k0_off6 (k0_t2 : Fin k0_t2_loop.trips) (c0_i32_17 : BitVec 32) : Fin 2 → Nat :=
  let c0_i32_12 : BitVec 32 := 0#32
  let c1_i32_14 : BitVec 32 := 1#32
  let arg8 : BitVec 32 := Scf.iv c0_i32_12 c1_i32_14 k0_t2
  let c4_i32 : BitVec 32 := 4#32
  let v23 : BitVec 32 := Scalar.muli arg8 c4_i32
  let v24 : BitVec 32 := v23
  let v25 : BitVec 32 := Scalar.addi v24 c0_i32_17
  let c32_i32 : BitVec 32 := 32#32
  let v26 : BitVec 32 := Scalar.muli v25 c32_i32
  let v27 : BitVec 32 := v26
  let v28 : Index := Scalar.indexCast v27
  let c256_18 : Index := 256#32
  ![v28.toNat, 256]
def k0_off7 (k0_t2 : Fin k0_t2_loop.trips) (c0_i32_17 : BitVec 32) : Fin 2 → Nat :=
  let c0_i32_12 : BitVec 32 := 0#32
  let c1_i32_14 : BitVec 32 := 1#32
  let arg8 : BitVec 32 := Scf.iv c0_i32_12 c1_i32_14 k0_t2
  let c4_i32 : BitVec 32 := 4#32
  let v23 : BitVec 32 := Scalar.muli arg8 c4_i32
  let v24 : BitVec 32 := v23
  let v25 : BitVec 32 := Scalar.addi v24 c0_i32_17
  let v31 : Index := Scalar.indexCast v25
  let c256_19 : Index := 256#32
  ![v31.toNat, 256]
def k0_mult16 (k0_t2 : Fin k0_t2_loop.trips) : BitVec 32 :=
  let c0_i32_12 : BitVec 32 := 0#32
  let c1_i32_14 : BitVec 32 := 1#32
  let arg8 : BitVec 32 := Scf.iv c0_i32_12 c1_i32_14 k0_t2
  let c4_i32 : BitVec 32 := 4#32
  let v23 : BitVec 32 := Scalar.muli arg8 c4_i32
  let v24 : BitVec 32 := v23
  let c0_i32_17 : BitVec 32 := 0#32
  let v25 : BitVec 32 := Scalar.addi v24 c0_i32_17
  let c32_i32_189 : BitVec 32 := 32#32
  let v548 : BitVec 32 := Scalar.muli v25 c32_i32_189
  v548
def k0_off8 (k0_t2 : Fin k0_t2_loop.trips) (c0_i32_17 : BitVec 32) : Fin 2 → Nat :=
  let c0_i32_12 : BitVec 32 := 0#32
  let c1_i32_14 : BitVec 32 := 1#32
  let arg8 : BitVec 32 := Scf.iv c0_i32_12 c1_i32_14 k0_t2
  let c4_i32 : BitVec 32 := 4#32
  let v23 : BitVec 32 := Scalar.muli arg8 c4_i32
  let v24 : BitVec 32 := v23
  let v25 : BitVec 32 := Scalar.addi v24 c0_i32_17
  let c32_i32_189 : BitVec 32 := 32#32
  let v548 : BitVec 32 := Scalar.muli v25 c32_i32_189
  let v549 : BitVec 32 := v548
  let v550 : Index := Scalar.indexCast v549
  let c384 : Index := 384#32
  ![v550.toNat, 384]
def k0_off9 (k0_t2 : Fin k0_t2_loop.trips) (c0_i32_17 : BitVec 32) : Fin 2 → Nat :=
  let c0_i32_12 : BitVec 32 := 0#32
  let c1_i32_14 : BitVec 32 := 1#32
  let arg8 : BitVec 32 := Scf.iv c0_i32_12 c1_i32_14 k0_t2
  let c4_i32 : BitVec 32 := 4#32
  let v23 : BitVec 32 := Scalar.muli arg8 c4_i32
  let v24 : BitVec 32 := v23
  let v25 : BitVec 32 := Scalar.addi v24 c0_i32_17
  let v553 : Index := Scalar.indexCast v25
  let c384_190 : Index := 384#32
  ![v553.toNat, 384]
def k0_mult17 (k0_t2 : Fin k0_t2_loop.trips) : BitVec 32 :=
  let c0_i32_12 : BitVec 32 := 0#32
  let c1_i32_14 : BitVec 32 := 1#32
  let arg8 : BitVec 32 := Scf.iv c0_i32_12 c1_i32_14 k0_t2
  let c4_i32_368 : BitVec 32 := 4#32
  let v1071 : BitVec 32 := Scalar.muli arg8 c4_i32_368
  v1071
def k0_mult18 (k0_t2 : Fin k0_t2_loop.trips) : BitVec 32 :=
  let c0_i32_12 : BitVec 32 := 0#32
  let c1_i32_14 : BitVec 32 := 1#32
  let arg8 : BitVec 32 := Scf.iv c0_i32_12 c1_i32_14 k0_t2
  let c4_i32_368 : BitVec 32 := 4#32
  let v1071 : BitVec 32 := Scalar.muli arg8 c4_i32_368
  let v1072 : BitVec 32 := v1071
  let c1_i32_369 : BitVec 32 := 1#32
  let v1073 : BitVec 32 := Scalar.addi v1072 c1_i32_369
  let c32_i32_370 : BitVec 32 := 32#32
  let v1074 : BitVec 32 := Scalar.muli v1073 c32_i32_370
  v1074
def k0_mult19 (k0_t2 : Fin k0_t2_loop.trips) : BitVec 32 :=
  let c0_i32_12 : BitVec 32 := 0#32
  let c1_i32_14 : BitVec 32 := 1#32
  let arg8 : BitVec 32 := Scf.iv c0_i32_12 c1_i32_14 k0_t2
  let c4_i32_368 : BitVec 32 := 4#32
  let v1071 : BitVec 32 := Scalar.muli arg8 c4_i32_368
  let v1072 : BitVec 32 := v1071
  let c1_i32_369 : BitVec 32 := 1#32
  let v1073 : BitVec 32 := Scalar.addi v1072 c1_i32_369
  let c32_i32_550 : BitVec 32 := 32#32
  let v1596 : BitVec 32 := Scalar.muli v1073 c32_i32_550
  v1596
def k0_mult20 (k0_t2 : Fin k0_t2_loop.trips) : BitVec 32 :=
  let c0_i32_12 : BitVec 32 := 0#32
  let c1_i32_14 : BitVec 32 := 1#32
  let arg8 : BitVec 32 := Scf.iv c0_i32_12 c1_i32_14 k0_t2
  let c4_i32_730 : BitVec 32 := 4#32
  let v2119 : BitVec 32 := Scalar.muli arg8 c4_i32_730
  v2119
def k0_mult21 (k0_t2 : Fin k0_t2_loop.trips) : BitVec 32 :=
  let c0_i32_12 : BitVec 32 := 0#32
  let c1_i32_14 : BitVec 32 := 1#32
  let arg8 : BitVec 32 := Scf.iv c0_i32_12 c1_i32_14 k0_t2
  let c4_i32_730 : BitVec 32 := 4#32
  let v2119 : BitVec 32 := Scalar.muli arg8 c4_i32_730
  let v2120 : BitVec 32 := v2119
  let c2_i32_731 : BitVec 32 := 2#32
  let v2121 : BitVec 32 := Scalar.addi v2120 c2_i32_731
  let c32_i32_732 : BitVec 32 := 32#32
  let v2122 : BitVec 32 := Scalar.muli v2121 c32_i32_732
  v2122
def k0_mult22 (k0_t2 : Fin k0_t2_loop.trips) : BitVec 32 :=
  let c0_i32_12 : BitVec 32 := 0#32
  let c1_i32_14 : BitVec 32 := 1#32
  let arg8 : BitVec 32 := Scf.iv c0_i32_12 c1_i32_14 k0_t2
  let c4_i32_730 : BitVec 32 := 4#32
  let v2119 : BitVec 32 := Scalar.muli arg8 c4_i32_730
  let v2120 : BitVec 32 := v2119
  let c2_i32_731 : BitVec 32 := 2#32
  let v2121 : BitVec 32 := Scalar.addi v2120 c2_i32_731
  let c32_i32_912 : BitVec 32 := 32#32
  let v2644 : BitVec 32 := Scalar.muli v2121 c32_i32_912
  v2644
def k0_mult23 (k0_t2 : Fin k0_t2_loop.trips) : BitVec 32 :=
  let c0_i32_12 : BitVec 32 := 0#32
  let c1_i32_14 : BitVec 32 := 1#32
  let arg8 : BitVec 32 := Scf.iv c0_i32_12 c1_i32_14 k0_t2
  let c4_i32_1092 : BitVec 32 := 4#32
  let v3167 : BitVec 32 := Scalar.muli arg8 c4_i32_1092
  v3167
def k0_mult24 (k0_t2 : Fin k0_t2_loop.trips) : BitVec 32 :=
  let c0_i32_12 : BitVec 32 := 0#32
  let c1_i32_14 : BitVec 32 := 1#32
  let arg8 : BitVec 32 := Scf.iv c0_i32_12 c1_i32_14 k0_t2
  let c4_i32_1092 : BitVec 32 := 4#32
  let v3167 : BitVec 32 := Scalar.muli arg8 c4_i32_1092
  let v3168 : BitVec 32 := v3167
  let c3_i32_1093 : BitVec 32 := 3#32
  let v3169 : BitVec 32 := Scalar.addi v3168 c3_i32_1093
  let c32_i32_1094 : BitVec 32 := 32#32
  let v3170 : BitVec 32 := Scalar.muli v3169 c32_i32_1094
  v3170
def k0_mult25 (k0_t2 : Fin k0_t2_loop.trips) : BitVec 32 :=
  let c0_i32_12 : BitVec 32 := 0#32
  let c1_i32_14 : BitVec 32 := 1#32
  let arg8 : BitVec 32 := Scf.iv c0_i32_12 c1_i32_14 k0_t2
  let c4_i32_1092 : BitVec 32 := 4#32
  let v3167 : BitVec 32 := Scalar.muli arg8 c4_i32_1092
  let v3168 : BitVec 32 := v3167
  let c3_i32_1093 : BitVec 32 := 3#32
  let v3169 : BitVec 32 := Scalar.addi v3168 c3_i32_1093
  let c32_i32_1274 : BitVec 32 := 32#32
  let v3692 : BitVec 32 := Scalar.muli v3169 c32_i32_1274
  v3692
def k0_mult26 (k0_t2 : Fin k0_t2_loop.trips) : BitVec 32 :=
  let c0_i32_12 : BitVec 32 := 0#32
  let c1_i32_14 : BitVec 32 := 1#32
  let arg8 : BitVec 32 := Scf.iv c0_i32_12 c1_i32_14 k0_t2
  let c256_i32 : BitVec 32 := 256#32
  let v4216 : BitVec 32 := Scalar.muli arg8 c256_i32
  v4216
def k0_off10 (k0_t2 : Fin k0_t2_loop.trips) : Fin 2 → Nat :=
  let c0_1454 : Index := 0#32
  let c0_i32_12 : BitVec 32 := 0#32
  let c1_i32_14 : BitVec 32 := 1#32
  let arg8 : BitVec 32 := Scf.iv c0_i32_12 c1_i32_14 k0_t2
  let c256_i32 : BitVec 32 := 256#32
  let v4216 : BitVec 32 := Scalar.muli arg8 c256_i32
  let v4217 : BitVec 32 := v4216
  let v4218 : Index := Scalar.indexCast v4217
  ![0, v4218.toNat]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S48x16384 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S16x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32x128 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x128 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S8192x512 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S48x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Ordered.lean ====
abbrev S48x1x16384 : Shape := ⟨3, ![48, 1, 16384]⟩
abbrev S8192x8192 : Shape := ⟨2, ![8192, 8192]⟩
abbrev S256x8192 : Shape := ⟨2, ![256, 8192]⟩
abbrev S_ : Shape := ⟨0, ![]⟩
abbrev S256x32x8192 : Shape := ⟨3, ![256, 32, 8192]⟩
abbrev S256x1x8192 : Shape := ⟨3, ![256, 1, 8192]⟩
abbrev S8192x1x8192 : Shape := ⟨3, ![8192, 1, 8192]⟩
abbrev S8192x2x8192 : Shape := ⟨3, ![8192, 2, 8192]⟩
abbrev S16384x8192 : Shape := ⟨2, ![16384, 8192]⟩
abbrev S48x256x16x4 : Shape := ⟨4, ![48, 256, 16, 4]⟩
abbrev S48x256x4x16 : Shape := ⟨4, ![48, 256, 4, 16]⟩
abbrev S48x16384 : Shape := ⟨2, ![48, 16384]⟩
abbrev S256x16x4x8192 : Shape := ⟨4, ![256, 16, 4, 8192]⟩
abbrev S256x4x16x8192 : Shape := ⟨4, ![256, 4, 16, 8192]⟩
abbrev S48x8192 : Shape := ⟨2, ![48, 8192]⟩
abbrev S16384x512 : Shape := ⟨2, ![16384, 512]⟩
abbrev S48x512 : Shape := ⟨2, ![48, 512]⟩
abbrev S48x256 : Shape := ⟨2, ![48, 256]⟩
abbrev S256x256 : Shape := ⟨2, ![256, 256]⟩

abbrev nBuf : Space → Nat
  | .hbm => 175
  | .vmem => 5
  | .smem => 0
  | _ => 0

abbrev hbmTy0_0 (i : Nat) : BufTy := match i % 128 with
  | 0 => ⟨S48x1x16384, .bf16⟩
  | 1 => ⟨S8192x8192, .i8⟩
  | 2 => ⟨S256x8192, .f32⟩
  | 3 => ⟨S8192x8192, .i32⟩
  | 4 => ⟨S_, .i32⟩
  | 5 => ⟨S8192x8192, .i32⟩
  | 6 => ⟨S8192x8192, .i32⟩
  | 7 => ⟨S_, .i32⟩
  | 8 => ⟨S8192x8192, .i32⟩
  | 9 => ⟨S8192x8192, .i32⟩
  | 10 => ⟨S_, .i32⟩
  | 11 => ⟨S8192x8192, .i32⟩
  | 12 => ⟨S8192x8192, .i1⟩
  | 13 => ⟨S_, .i32⟩
  | 14 => ⟨S8192x8192, .i32⟩
  | 15 => ⟨S8192x8192, .i32⟩
  | 16 => ⟨S_, .i32⟩
  | 17 => ⟨S8192x8192, .i32⟩
  | 18 => ⟨S8192x8192, .i1⟩
  | 19 => ⟨S_, .i32⟩
  | 20 => ⟨S8192x8192, .i32⟩
  | 21 => ⟨S8192x8192, .i32⟩
  | 22 => ⟨S_, .i32⟩
  | 23 => ⟨S8192x8192, .i32⟩
  | 24 => ⟨S8192x8192, .i1⟩
  | 25 => ⟨S_, .i32⟩
  | 26 => ⟨S8192x8192, .i32⟩
  | 27 => ⟨S8192x8192, .i32⟩
  | 28 => ⟨S_, .i32⟩
  | 29 => ⟨S8192x8192, .i32⟩
  | 30 => ⟨S8192x8192, .i1⟩
  | 31 => ⟨S_, .f32⟩
  | 32 => ⟨S_, .f32⟩
  | 33 => ⟨S8192x8192, .f32⟩
  | 34 => ⟨S8192x8192, .f32⟩
  | 35 => ⟨S8192x8192, .f32⟩
  | 36 => ⟨S_, .f32⟩
  | 37 => ⟨S_, .f32⟩
  | 38 => ⟨S8192x8192, .f32⟩
  | 39 => ⟨S8192x8192, .f32⟩
  | 40 => ⟨S8192x8192, .f32⟩
  | 41 => ⟨S8192x8192, .f32⟩
  | 42 => ⟨S_, .f32⟩
  | 43 => ⟨S_, .f32⟩
  | 44 => ⟨S8192x8192, .f32⟩
  | 45 => ⟨S8192x8192, .f32⟩
  | 46 => ⟨S8192x8192, .f32⟩
  | 47 => ⟨S_, .f32⟩
  | 48 => ⟨S_, .f32⟩
  | 49 => ⟨S8192x8192, .f32⟩
  | 50 => ⟨S8192x8192, .f32⟩
  | 51 => ⟨S8192x8192, .f32⟩
  | 52 => ⟨S8192x8192, .f32⟩
  | 53 => ⟨S8192x8192, .f32⟩
  | 54 => ⟨S_, .f32⟩
  | 55 => ⟨S_, .f32⟩
  | 56 => ⟨S8192x8192, .f32⟩
  | 57 => ⟨S8192x8192, .f32⟩
  | 58 => ⟨S8192x8192, .f32⟩
  | 59 => ⟨S_, .f32⟩
  | 60 => ⟨S_, .f32⟩
  | 61 => ⟨S8192x8192, .f32⟩
  | 62 => ⟨S8192x8192, .f32⟩
  | 63 => ⟨S8192x8192, .f32⟩
  | 64 => ⟨S8192x8192, .f32⟩
  | 65 => ⟨S_, .f32⟩
  | 66 => ⟨S_, .f32⟩
  | 67 => ⟨S8192x8192, .f32⟩
  | 68 => ⟨S8192x8192, .f32⟩
  | 69 => ⟨S8192x8192, .f32⟩
  | 70 => ⟨S_, .f32⟩
  | 71 => ⟨S_, .f32⟩
  | 72 => ⟨S8192x8192, .f32⟩
  | 73 => ⟨S8192x8192, .f32⟩
  | 74 => ⟨S8192x8192, .f32⟩
  | 75 => ⟨S8192x8192, .f32⟩
  | 76 => ⟨S8192x8192, .f32⟩
  | 77 => ⟨S8192x8192, .f32⟩
  | 78 => ⟨S256x32x8192, .f32⟩
  | 79 => ⟨S256x1x8192, .f32⟩
  | 80 => ⟨S256x32x8192, .f32⟩
  | 81 => ⟨S256x32x8192, .f32⟩
  | 82 => ⟨S256x32x8192, .bf16⟩
  | 83 => ⟨S8192x8192, .bf16⟩
  | 84 => ⟨S_, .i32⟩
  | 85 => ⟨S8192x8192, .i32⟩
  | 86 => ⟨S8192x8192, .i32⟩
  | 87 => ⟨S_, .i32⟩
  | 88 => ⟨S8192x8192, .i32⟩
  | 89 => ⟨S8192x8192, .i32⟩
  | 90 => ⟨S_, .i32⟩
  | 91 => ⟨S8192x8192, .i32⟩
  | 92 => ⟨S8192x8192, .i1⟩
  | 93 => ⟨S_, .i32⟩
  | 94 => ⟨S8192x8192, .i32⟩
  | 95 => ⟨S8192x8192, .i32⟩
  | 96 => ⟨S_, .i32⟩
  | 97 => ⟨S8192x8192, .i32⟩
  | 98 => ⟨S8192x8192, .i1⟩
  | 99 => ⟨S_, .i32⟩
  | 100 => ⟨S8192x8192, .i32⟩
  | 101 => ⟨S8192x8192, .i32⟩
  | 102 => ⟨S_, .i32⟩
  | 103 => ⟨S8192x8192, .i32⟩
  | 104 => ⟨S8192x8192, .i1⟩
  | 105 => ⟨S_, .i32⟩
  | 106 => ⟨S8192x8192, .i32⟩
  | 107 => ⟨S8192x8192, .i32⟩
  | 108 => ⟨S_, .i32⟩
  | 109 => ⟨S8192x8192, .i32⟩
  | 110 => ⟨S8192x8192, .i1⟩
  | 111 => ⟨S_, .f32⟩
  | 112 => ⟨S_, .f32⟩
  | 113 => ⟨S8192x8192, .f32⟩
  | 114 => ⟨S8192x8192, .f32⟩
  | 115 => ⟨S8192x8192, .f32⟩
  | 116 => ⟨S_, .f32⟩
  | 117 => ⟨S_, .f32⟩
  | 118 => ⟨S8192x8192, .f32⟩
  | 119 => ⟨S8192x8192, .f32⟩
  | 120 => ⟨S8192x8192, .f32⟩
  | 121 => ⟨S8192x8192, .f32⟩
  | 122 => ⟨S_, .f32⟩
  | 123 => ⟨S_, .f32⟩
  | 124 => ⟨S8192x8192, .f32⟩
  | 125 => ⟨S8192x8192, .f32⟩
  | 126 => ⟨S8192x8192, .f32⟩
  | 127 => ⟨S_, .f32⟩
  | _ => ⟨S48x1x16384, .bf16⟩

abbrev hbmTy0_1 (i : Nat) : BufTy := match i % 128 with
  | 0 => ⟨S_, .f32⟩
  | 1 => ⟨S8192x8192, .f32⟩
  | 2 => ⟨S8192x8192, .f32⟩
  | 3 => ⟨S8192x8192, .f32⟩
  | 4 => ⟨S8192x8192, .f32⟩
  | 5 => ⟨S8192x8192, .f32⟩
  | 6 => ⟨S_, .f32⟩
  | 7 => ⟨S_, .f32⟩
  | 8 => ⟨S8192x8192, .f32⟩
  | 9 => ⟨S8192x8192, .f32⟩
  | 10 => ⟨S8192x8192, .f32⟩
  | 11 => ⟨S_, .f32⟩
  | 12 => ⟨S_, .f32⟩
  | 13 => ⟨S8192x8192, .f32⟩
  | 14 => ⟨S8192x8192, .f32⟩
  | 15 => ⟨S8192x8192, .f32⟩
  | 16 => ⟨S8192x8192, .f32⟩
  | 17 => ⟨S_, .f32⟩
  | 18 => ⟨S_, .f32⟩
  | 19 => ⟨S8192x8192, .f32⟩
  | 20 => ⟨S8192x8192, .f32⟩
  | 21 => ⟨S8192x8192, .f32⟩
  | 22 => ⟨S_, .f32⟩
  | 23 => ⟨S_, .f32⟩
  | 24 => ⟨S8192x8192, .f32⟩
  | 25 => ⟨S8192x8192, .f32⟩
  | 26 => ⟨S8192x8192, .f32⟩
  | 27 => ⟨S8192x8192, .f32⟩
  | 28 => ⟨S8192x8192, .f32⟩
  | 29 => ⟨S8192x8192, .f32⟩
  | 30 => ⟨S256x32x8192, .f32⟩
  | 31 => ⟨S256x1x8192, .f32⟩
  | 32 => ⟨S256x32x8192, .f32⟩
  | 33 => ⟨S256x32x8192, .f32⟩
  | 34 => ⟨S256x32x8192, .bf16⟩
  | 35 => ⟨S8192x8192, .bf16⟩
  | 36 => ⟨S8192x1x8192, .bf16⟩
  | 37 => ⟨S8192x1x8192, .bf16⟩
  | 38 => ⟨S8192x2x8192, .bf16⟩
  | 39 => ⟨S16384x8192, .bf16⟩
  | 40 => ⟨S48x256x16x4, .bf16⟩
  | 41 => ⟨S48x256x4x16, .bf16⟩
  | 42 => ⟨S48x16384, .bf16⟩
  | 43 => ⟨S256x16x4x8192, .bf16⟩
  | 44 => ⟨S256x4x16x8192, .bf16⟩
  | 45 => ⟨S16384x8192, .bf16⟩
  | 46 => ⟨S48x8192, .bf16⟩
  | _ => ⟨S48x1x16384, .bf16⟩

abbrev hbmTy (i : Nat) : BufTy := match i / 128 with
  | 0 => hbmTy0_0 i
  | 1 => hbmTy0_1 i
  | _ => ⟨S48x1x16384, .bf16⟩

abbrev bufTy : (tb : Table) → Fin (tcTables nBuf tb) → BufTy
  | .hbm, ⟨i, _⟩ => hbmTy i
  | .local _ .vmem, ⟨0, _⟩ => ⟨S48x16384, .bf16⟩
  | .local _ .vmem, ⟨1, _⟩ => ⟨S16384x512, .bf16⟩
  | .local _ .vmem, ⟨2, _⟩ => ⟨S16384x512, .bf16⟩
  | .local _ .vmem, ⟨3, _⟩ => ⟨S48x512, .bf16⟩
  | .local _ .vmem, ⟨4, _⟩ => ⟨S48x512, .bf16⟩
  | _, _ => ⟨S48x1x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_c_0 : Ref sig .tc := ⟨.hbm, 7, rfl⟩
abbrev main_v3 : Ref sig .tc := ⟨.hbm, 8, rfl⟩
abbrev main_v4 : Ref sig .tc := ⟨.hbm, 9, rfl⟩
abbrev main_c_1 : Ref sig .tc := ⟨.hbm, 10, rfl⟩
abbrev main_v5 : Ref sig .tc := ⟨.hbm, 11, rfl⟩
abbrev main_v6 : Ref sig .tc := ⟨.hbm, 12, rfl⟩
abbrev main_c_2 : Ref sig .tc := ⟨.hbm, 13, rfl⟩
abbrev main_v7 : Ref sig .tc := ⟨.hbm, 14, rfl⟩
abbrev main_v8 : Ref sig .tc := ⟨.hbm, 15, rfl⟩
abbrev main_c_3 : Ref sig .tc := ⟨.hbm, 16, rfl⟩
abbrev main_v9 : Ref sig .tc := ⟨.hbm, 17, rfl⟩
abbrev main_v10 : Ref sig .tc := ⟨.hbm, 18, rfl⟩
abbrev main_c_4 : Ref sig .tc := ⟨.hbm, 19, rfl⟩
abbrev main_v11 : Ref sig .tc := ⟨.hbm, 20, rfl⟩
abbrev main_v12 : Ref sig .tc := ⟨.hbm, 21, rfl⟩
abbrev main_c_5 : Ref sig .tc := ⟨.hbm, 22, rfl⟩
abbrev main_v13 : Ref sig .tc := ⟨.hbm, 23, rfl⟩
abbrev main_v14 : Ref sig .tc := ⟨.hbm, 24, rfl⟩
abbrev main_c_6 : Ref sig .tc := ⟨.hbm, 25, rfl⟩
abbrev main_v15 : Ref sig .tc := ⟨.hbm, 26, rfl⟩
abbrev main_v16 : Ref sig .tc := ⟨.hbm, 27, rfl⟩
abbrev main_c_7 : Ref sig .tc := ⟨.hbm, 28, rfl⟩
abbrev main_v17 : Ref sig .tc := ⟨.hbm, 29, rfl⟩
abbrev main_v18 : Ref sig .tc := ⟨.hbm, 30, rfl⟩
abbrev main_cst : Ref sig .tc := ⟨.hbm, 31, rfl⟩
abbrev main_cst_8 : Ref sig .tc := ⟨.hbm, 32, rfl⟩
abbrev main_call0_v0 : Ref sig .tc := ⟨.hbm, 33, rfl⟩
abbrev main_call0_v1 : Ref sig .tc := ⟨.hbm, 34, rfl⟩
abbrev main_v19 : Ref sig .tc := ⟨.hbm, 35, rfl⟩
abbrev main_cst_9 : Ref sig .tc := ⟨.hbm, 36, rfl⟩
abbrev main_cst_10 : Ref sig .tc := ⟨.hbm, 37, rfl⟩
abbrev main_call1_v0 : Ref sig .tc := ⟨.hbm, 38, rfl⟩
abbrev main_call1_v1 : Ref sig .tc := ⟨.hbm, 39, rfl⟩
abbrev main_v20 : Ref sig .tc := ⟨.hbm, 40, rfl⟩
abbrev main_v21 : Ref sig .tc := ⟨.hbm, 41, rfl⟩
abbrev main_cst_11 : Ref sig .tc := ⟨.hbm, 42, rfl⟩
abbrev main_cst_12 : Ref sig .tc := ⟨.hbm, 43, rfl⟩
abbrev main_call3_v0 : Ref sig .tc := ⟨.hbm, 44, rfl⟩
abbrev main_call3_v1 : Ref sig .tc := ⟨.hbm, 45, rfl⟩
abbrev main_v22 : Ref sig .tc := ⟨.hbm, 46, rfl⟩
abbrev main_cst_13 : Ref sig .tc := ⟨.hbm, 47, rfl⟩
abbrev main_cst_14 : Ref sig .tc := ⟨.hbm, 48, rfl⟩
abbrev main_call4_v0 : Ref sig .tc := ⟨.hbm, 49, rfl⟩
abbrev main_call4_v1 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_cst_15 : Ref sig .tc := ⟨.hbm, 54, rfl⟩
abbrev main_cst_16 : Ref sig .tc := ⟨.hbm, 55, rfl⟩
abbrev main_call7_v0 : Ref sig .tc := ⟨.hbm, 56, rfl⟩
abbrev main_call7_v1 : Ref sig .tc := ⟨.hbm, 57, rfl⟩
abbrev main_v26 : Ref sig .tc := ⟨.hbm, 58, rfl⟩
abbrev main_cst_17 : Ref sig .tc := ⟨.hbm, 59, rfl⟩
abbrev main_cst_18 : Ref sig .tc := ⟨.hbm, 60, rfl⟩
abbrev main_call8_v0 : Ref sig .tc := ⟨.hbm, 61, rfl⟩
abbrev main_call8_v1 : Ref sig .tc := ⟨.hbm, 62, rfl⟩
abbrev main_v27 : Ref sig .tc := ⟨.hbm, 63, rfl⟩
abbrev main_v28 : Ref sig .tc := ⟨.hbm, 64, rfl⟩
abbrev main_cst_19 : Ref sig .tc := ⟨.hbm, 65, rfl⟩
abbrev main_cst_20 : Ref sig .tc := ⟨.hbm, 66, rfl⟩
abbrev main_call10_v0 : Ref sig .tc := ⟨.hbm, 67, rfl⟩
abbrev main_call10_v1 : Ref sig .tc := ⟨.hbm, 68, rfl⟩
abbrev main_v29 : Ref sig .tc := ⟨.hbm, 69, rfl⟩
abbrev main_cst_21 : Ref sig .tc := ⟨.hbm, 70, rfl⟩
abbrev main_cst_22 : Ref sig .tc := ⟨.hbm, 71, rfl⟩
abbrev main_call11_v0 : Ref sig .tc := ⟨.hbm, 72, rfl⟩
abbrev main_call11_v1 : Ref sig .tc := ⟨.hbm, 73, rfl⟩
abbrev main_v30 : Ref sig .tc := ⟨.hbm, 74, rfl⟩
abbrev main_v31 : Ref sig .tc := ⟨.hbm, 75, rfl⟩
abbrev main_v32 : Ref sig .tc := ⟨.hbm, 76, rfl⟩
abbrev main_v33 : Ref sig .tc := ⟨.hbm, 77, rfl⟩
abbrev main_v34 : Ref sig .tc := ⟨.hbm, 78, rfl⟩
abbrev main_v35 : Ref sig .tc := ⟨.hbm, 79, rfl⟩
abbrev main_v36 : Ref sig .tc := ⟨.hbm, 80, rfl⟩
abbrev main_v37 : Ref sig .tc := ⟨.hbm, 81, rfl⟩
abbrev main_v38 : Ref sig .tc := ⟨.hbm, 82, rfl⟩
abbrev main_v39 : Ref sig .tc := ⟨.hbm, 83, rfl⟩
abbrev main_c_23 : Ref sig .tc := ⟨.hbm, 84, rfl⟩
abbrev main_v40 : Ref sig .tc := ⟨.hbm, 85, rfl⟩
abbrev main_v41 : Ref sig .tc := ⟨.hbm, 86, rfl⟩
abbrev main_c_24 : Ref sig .tc := ⟨.hbm, 87, rfl⟩
abbrev main_v42 : Ref sig .tc := ⟨.hbm, 88, rfl⟩
abbrev main_v43 : Ref sig .tc := ⟨.hbm, 89, rfl⟩
abbrev main_c_25 : Ref sig .tc := ⟨.hbm, 90, rfl⟩
abbrev main_v44 : Ref sig .tc := ⟨.hbm, 91, rfl⟩
abbrev main_v45 : Ref sig .tc := ⟨.hbm, 92, rfl⟩
abbrev main_c_26 : Ref sig .tc := ⟨.hbm, 93, rfl⟩
abbrev main_v46 : Ref sig .tc := ⟨.hbm, 94, rfl⟩
abbrev main_v47 : Ref sig .tc := ⟨.hbm, 95, rfl⟩
abbrev main_c_27 : Ref sig .tc := ⟨.hbm, 96, rfl⟩
abbrev main_v48 : Ref sig .tc := ⟨.hbm, 97, rfl⟩
abbrev main_v49 : Ref sig .tc := ⟨.hbm, 98, rfl⟩
abbrev main_c_28 : Ref sig .tc := ⟨.hbm, 99, rfl⟩
abbrev main_v50 : Ref sig .tc := ⟨.hbm, 100, rfl⟩
abbrev main_v51 : Ref sig .tc := ⟨.hbm, 101, rfl⟩
abbrev main_c_29 : Ref sig .tc := ⟨.hbm, 102, rfl⟩
abbrev main_v52 : Ref sig .tc := ⟨.hbm, 103, rfl⟩
abbrev main_v53 : Ref sig .tc := ⟨.hbm, 104, rfl⟩
abbrev main_c_30 : Ref sig .tc := ⟨.hbm, 105, rfl⟩
abbrev main_v54 : Ref sig .tc := ⟨.hbm, 106, rfl⟩
abbrev main_v55 : Ref sig .tc := ⟨.hbm, 107, rfl⟩
abbrev main_c_31 : Ref sig .tc := ⟨.hbm, 108, rfl⟩
abbrev main_v56 : Ref sig .tc := ⟨.hbm, 109, rfl⟩
abbrev main_v57 : Ref sig .tc := ⟨.hbm, 110, rfl⟩
abbrev main_cst_32 : Ref sig .tc := ⟨.hbm, 111, rfl⟩
abbrev main_cst_33 : Ref sig .tc := ⟨.hbm, 112, rfl⟩
abbrev main_call15_v0 : Ref sig .tc := ⟨.hbm, 113, rfl⟩
abbrev main_call15_v1 : Ref sig .tc := ⟨.hbm, 114, rfl⟩
abbrev main_v58 : Ref sig .tc := ⟨.hbm, 115, rfl⟩
abbrev main_cst_34 : Ref sig .tc := ⟨.hbm, 116, rfl⟩
abbrev main_cst_35 : Ref sig .tc := ⟨.hbm, 117, rfl⟩
abbrev main_call16_v0 : Ref sig .tc := ⟨.hbm, 118, rfl⟩
abbrev main_call16_v1 : Ref sig .tc := ⟨.hbm, 119, rfl⟩
abbrev main_v59 : Ref sig .tc := ⟨.hbm, 120, rfl⟩
abbrev main_v60 : Ref sig .tc := ⟨.hbm, 121, rfl⟩
abbrev main_cst_36 : Ref sig .tc := ⟨.hbm, 122, rfl⟩
abbrev main_cst_37 : Ref sig .tc := ⟨.hbm, 123, rfl⟩
abbrev main_call18_v0 : Ref sig .tc := ⟨.hbm, 124, rfl⟩
abbrev main_call18_v1 : Ref sig .tc := ⟨.hbm, 125, rfl⟩
abbrev main_v61 : Ref sig .tc := ⟨.hbm, 126, rfl⟩
abbrev main_cst_38 : Ref sig .tc := ⟨.hbm, 127, rfl⟩
abbrev main_cst_39 : Ref sig .tc := ⟨.hbm, 128, rfl⟩
abbrev main_call19_v0 : Ref sig .tc := ⟨.hbm, 129, rfl⟩
abbrev main_call19_v1 : Ref sig .tc := ⟨.hbm, 130, rfl⟩
abbrev main_v62 : Ref sig .tc := ⟨.hbm, 131, rfl⟩
abbrev main_v63 : Ref sig .tc := ⟨.hbm, 132, rfl⟩
abbrev main_v64 : Ref sig .tc := ⟨.hbm, 133, rfl⟩
abbrev main_cst_40 : Ref sig .tc := ⟨.hbm, 134, rfl⟩
abbrev main_cst_41 : Ref sig .tc := ⟨.hbm, 135, rfl⟩
abbrev main_call22_v0 : Ref sig .tc := ⟨.hbm, 136, rfl⟩
abbrev main_call22_v1 : Ref sig .tc := ⟨.hbm, 137, rfl⟩
abbrev main_v65 : Ref sig .tc := ⟨.hbm, 138, rfl⟩
abbrev main_cst_42 : Ref sig .tc := ⟨.hbm, 139, rfl⟩
abbrev main_cst_43 : Ref sig .tc := ⟨.hbm, 140, rfl⟩
abbrev main_call23_v0 : Ref sig .tc := ⟨.hbm, 141, rfl⟩
abbrev main_call23_v1 : Ref sig .tc := ⟨.hbm, 142, rfl⟩
abbrev main_v66 : Ref sig .tc := ⟨.hbm, 143, rfl⟩
abbrev main_v67 : Ref sig .tc := ⟨.hbm, 144, rfl⟩
abbrev main_cst_44 : Ref sig .tc := ⟨.hbm, 145, rfl⟩
abbrev main_cst_45 : Ref sig .tc := ⟨.hbm, 146, rfl⟩
abbrev main_call25_v0 : Ref sig .tc := ⟨.hbm, 147, rfl⟩
abbrev main_call25_v1 : Ref sig .tc := ⟨.hbm, 148, rfl⟩
abbrev main_v68 : Ref sig .tc := ⟨.hbm, 149, rfl⟩
abbrev main_cst_46 : Ref sig .tc := ⟨.hbm, 150, rfl⟩
abbrev main_cst_47 : Ref sig .tc := ⟨.hbm, 151, rfl⟩
abbrev main_call26_v0 : Ref sig .tc := ⟨.hbm, 152, rfl⟩
abbrev main_call26_v1 : Ref sig .tc := ⟨.hbm, 153, rfl⟩
abbrev main_v69 : Ref sig .tc := ⟨.hbm, 154, rfl⟩
abbrev main_v70 : Ref sig .tc := ⟨.hbm, 155, rfl⟩
abbrev main_v71 : Ref sig .tc := ⟨.hbm, 156, rfl⟩
abbrev main_v72 : Ref sig .tc := ⟨.hbm, 157, rfl⟩
abbrev main_v73 : Ref sig .tc := ⟨.hbm, 158, rfl⟩
abbrev main_v74 : Ref sig .tc := ⟨.hbm, 159, rfl⟩
abbrev main_v75 : Ref sig .tc := ⟨.hbm, 160, rfl⟩
abbrev main_v76 : Ref sig .tc := ⟨.hbm, 161, rfl⟩
abbrev main_v77 : Ref sig .tc := ⟨.hbm, 162, rfl⟩
abbrev main_v78 : Ref sig .tc := ⟨.hbm, 163, rfl⟩
abbrev main_v79 : Ref sig .tc := ⟨.hbm, 164, rfl⟩
abbrev main_v80 : Ref sig .tc := ⟨.hbm, 165, rfl⟩
abbrev main_v81 : Ref sig .tc := ⟨.hbm, 166, rfl⟩
abbrev main_v82 : Ref sig .tc := ⟨.hbm, 167, rfl⟩
abbrev main_v83 : Ref sig .tc := ⟨.hbm, 168, rfl⟩
abbrev main_v84 : Ref sig .tc := ⟨.hbm, 169, rfl⟩
abbrev main_v85 : Ref sig .tc := ⟨.hbm, 170, rfl⟩
abbrev main_v86 : Ref sig .tc := ⟨.hbm, 171, rfl⟩
abbrev main_v87 : Ref sig .tc := ⟨.hbm, 172, rfl⟩
abbrev main_v88 : Ref sig .tc := ⟨.hbm, 173, rfl⟩
abbrev main_v89 : Ref sig .tc := ⟨.hbm, 174, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32 : BitVec 32 := 0#32
  let c64_i32 : BitVec 32 := 64#32
  let v1 : BitVec 32 := Scalar.addi c0_i32 c64_i32
  let c1_i32 : BitVec 32 := 1#32
  ⟨c0_i32, v1, c1_i32⟩
def k0_mult1 (k0_t1 : Fin k0_t1_loop.trips) : BitVec 32 :=
  let c0_i32 : BitVec 32 := 0#32
  let c1_i32 : BitVec 32 := 1#32
  let arg4 : BitVec 32 := Scf.iv c0_i32 c1_i32 k0_t1
  let c256_i32 : BitVec 32 := 256#32
  let v10 : BitVec 32 := Scalar.muli arg4 c256_i32
  v10
def k0_off1 (k0_t1 : Fin k0_t1_loop.trips) : Fin 2 → Nat :=
  let c0_8 : Index := 0#32
  let c0_i32 : BitVec 32 := 0#32
  let c1_i32 : BitVec 32 := 1#32
  let arg4 : BitVec 32 := Scf.iv c0_i32 c1_i32 k0_t1
  let c256_i32 : BitVec 32 := 256#32
  let v10 : BitVec 32 := Scalar.muli arg4 c256_i32
  let v11 : BitVec 32 := v10
  let v12 : Index := Scalar.indexCast v11
  ![0, v12.toNat]
def k0_off2 (k0_t1 : Fin k0_t1_loop.trips) : Fin 2 → Nat :=
  let c0_i32 : BitVec 32 := 0#32
  let c1_i32 : BitVec 32 := 1#32
  let arg4 : BitVec 32 := Scf.iv c0_i32 c1_i32 k0_t1
  let c256_i32 : BitVec 32 := 256#32
  let v10 : BitVec 32 := Scalar.muli arg4 c256_i32
  let v11 : BitVec 32 := v10
  let v15 : Index := Scalar.indexCast v11
  let c0_9 : Index := 0#32
  ![v15.toNat, 0]
@[reducible] def k0_t2_loop : Scf.Loop 32 :=
  let c0_i32_3 : BitVec 32 := 0#32
  let c64_i32_4 : BitVec 32 := 64#32
  let v6 : BitVec 32 := Scalar.addi c0_i32_3 c64_i32_4
  let c1_i32_5 : BitVec 32 := 1#32
  ⟨c0_i32_3, v6, c1_i32_5⟩
def k0_mult2 (k0_t2 : Fin k0_t2_loop.trips) : BitVec 32 :=
  let c0_i32_3 : BitVec 32 := 0#32
  let c1_i32_5 : BitVec 32 := 1#32
  let arg4 : BitVec 32 := Scf.iv c0_i32_3 c1_i32_5 k0_t2
  let c256_i32 : BitVec 32 := 256#32
  let v10 : BitVec 32 := Scalar.muli arg4 c256_i32
  v10
def k0_off3 (k0_t2 : Fin k0_t2_loop.trips) : Fin 2 → Nat :=
  let c0_8 : Index := 0#32
  let c0_i32_3 : BitVec 32 := 0#32
  let c1_i32_5 : BitVec 32 := 1#32
  let arg4 : BitVec 32 := Scf.iv c0_i32_3 c1_i32_5 k0_t2
  let c256_i32 : BitVec 32 := 256#32
  let v10 : BitVec 32 := Scalar.muli arg4 c256_i32
  let v11 : BitVec 32 := v10
  let v12 : Index := Scalar.indexCast v11
  ![0, v12.toNat]
def k0_off4 (k0_t2 : Fin k0_t2_loop.trips) : Fin 2 → Nat :=
  let c0_i32_3 : BitVec 32 := 0#32
  let c1_i32_5 : BitVec 32 := 1#32
  let arg4 : BitVec 32 := Scf.iv c0_i32_3 c1_i32_5 k0_t2
  let c256_i32 : BitVec 32 := 256#32
  let v10 : BitVec 32 := Scalar.muli arg4 c256_i32
  let v11 : BitVec 32 := v10
  let v15 : Index := Scalar.indexCast v11
  let c256_9 : Index := 256#32
  ![v15.toNat, 256]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S48x16384 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S16384x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S48x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S48x1x16384 : Shape := ⟨3, ![48, 1, 16384]⟩
abbrev S8192x8192 : Shape := ⟨2, ![8192, 8192]⟩
abbrev S256x8192 : Shape := ⟨2, ![256, 8192]⟩
abbrev S_ : Shape := ⟨0, ![]⟩
abbrev S256x32x8192 : Shape := ⟨3, ![256, 32, 8192]⟩
abbrev S256x1x8192 : Shape := ⟨3, ![256, 1, 8192]⟩
abbrev S48x1x8192 : Shape := ⟨3, ![48, 1, 8192]⟩
abbrev S48x8192 : Shape := ⟨2, ![48, 8192]⟩

abbrev nBuf : Space → Nat
  | .hbm => 171
  | .vmem => 0
  | .smem => 0
  | _ => 0

abbrev hbmTy0_0 (i : Nat) : BufTy := match i % 128 with
  | 0 => ⟨S48x1x16384, .bf16⟩
  | 1 => ⟨S8192x8192, .i8⟩
  | 2 => ⟨S256x8192, .f32⟩
  | 3 => ⟨S8192x8192, .i32⟩
  | 4 => ⟨S_, .i32⟩
  | 5 => ⟨S8192x8192, .i32⟩
  | 6 => ⟨S8192x8192, .i32⟩
  | 7 => ⟨S_, .i32⟩
  | 8 => ⟨S8192x8192, .i32⟩
  | 9 => ⟨S8192x8192, .i32⟩
  | 10 => ⟨S_, .i32⟩
  | 11 => ⟨S8192x8192, .i32⟩
  | 12 => ⟨S8192x8192, .i32⟩
  | 13 => ⟨S_, .i32⟩
  | 14 => ⟨S8192x8192, .i32⟩
  | 15 => ⟨S8192x8192, .i1⟩
  | 16 => ⟨S_, .i32⟩
  | 17 => ⟨S8192x8192, .i32⟩
  | 18 => ⟨S8192x8192, .i32⟩
  | 19 => ⟨S_, .i32⟩
  | 20 => ⟨S8192x8192, .i32⟩
  | 21 => ⟨S8192x8192, .i1⟩
  | 22 => ⟨S_, .i32⟩
  | 23 => ⟨S8192x8192, .i32⟩
  | 24 => ⟨S8192x8192, .i32⟩
  | 25 => ⟨S_, .i32⟩
  | 26 => ⟨S8192x8192, .i32⟩
  | 27 => ⟨S8192x8192, .i1⟩
  | 28 => ⟨S_, .i32⟩
  | 29 => ⟨S8192x8192, .i32⟩
  | 30 => ⟨S8192x8192, .i32⟩
  | 31 => ⟨S_, .i32⟩
  | 32 => ⟨S8192x8192, .i32⟩
  | 33 => ⟨S8192x8192, .i1⟩
  | 34 => ⟨S_, .f32⟩
  | 35 => ⟨S_, .f32⟩
  | 36 => ⟨S8192x8192, .f32⟩
  | 37 => ⟨S8192x8192, .f32⟩
  | 38 => ⟨S8192x8192, .f32⟩
  | 39 => ⟨S_, .f32⟩
  | 40 => ⟨S_, .f32⟩
  | 41 => ⟨S8192x8192, .f32⟩
  | 42 => ⟨S8192x8192, .f32⟩
  | 43 => ⟨S8192x8192, .f32⟩
  | 44 => ⟨S8192x8192, .f32⟩
  | 45 => ⟨S_, .f32⟩
  | 46 => ⟨S_, .f32⟩
  | 47 => ⟨S8192x8192, .f32⟩
  | 48 => ⟨S8192x8192, .f32⟩
  | 49 => ⟨S8192x8192, .f32⟩
  | 50 => ⟨S_, .f32⟩
  | 51 => ⟨S_, .f32⟩
  | 52 => ⟨S8192x8192, .f32⟩
  | 53 => ⟨S8192x8192, .f32⟩
  | 54 => ⟨S8192x8192, .f32⟩
  | 55 => ⟨S8192x8192, .f32⟩
  | 56 => ⟨S8192x8192, .f32⟩
  | 57 => ⟨S_, .f32⟩
  | 58 => ⟨S_, .f32⟩
  | 59 => ⟨S8192x8192, .f32⟩
  | 60 => ⟨S8192x8192, .f32⟩
  | 61 => ⟨S8192x8192, .f32⟩
  | 62 => ⟨S_, .f32⟩
  | 63 => ⟨S_, .f32⟩
  | 64 => ⟨S8192x8192, .f32⟩
  | 65 => ⟨S8192x8192, .f32⟩
  | 66 => ⟨S8192x8192, .f32⟩
  | 67 => ⟨S8192x8192, .f32⟩
  | 68 => ⟨S_, .f32⟩
  | 69 => ⟨S_, .f32⟩
  | 70 => ⟨S8192x8192, .f32⟩
  | 71 => ⟨S8192x8192, .f32⟩
  | 72 => ⟨S8192x8192, .f32⟩
  | 73 => ⟨S_, .f32⟩
  | 74 => ⟨S_, .f32⟩
  | 75 => ⟨S8192x8192, .f32⟩
  | 76 => ⟨S8192x8192, .f32⟩
  | 77 => ⟨S8192x8192, .f32⟩
  | 78 => ⟨S8192x8192, .f32⟩
  | 79 => ⟨S8192x8192, .f32⟩
  | 80 => ⟨S8192x8192, .f32⟩
  | 81 => ⟨S256x32x8192, .f32⟩
  | 82 => ⟨S256x1x8192, .f32⟩
  | 83 => ⟨S256x32x8192, .f32⟩
  | 84 => ⟨S256x32x8192, .f32⟩
  | 85 => ⟨S256x32x8192, .bf16⟩
  | 86 => ⟨S8192x8192, .bf16⟩
  | 87 => ⟨S_, .i32⟩
  | 88 => ⟨S8192x8192, .i32⟩
  | 89 => ⟨S8192x8192, .i32⟩
  | 90 => ⟨S_, .i32⟩
  | 91 => ⟨S8192x8192, .i32⟩
  | 92 => ⟨S8192x8192, .i1⟩
  | 93 => ⟨S_, .i32⟩
  | 94 => ⟨S8192x8192, .i32⟩
  | 95 => ⟨S8192x8192, .i32⟩
  | 96 => ⟨S_, .i32⟩
  | 97 => ⟨S8192x8192, .i32⟩
  | 98 => ⟨S8192x8192, .i1⟩
  | 99 => ⟨S_, .i32⟩
  | 100 => ⟨S8192x8192, .i32⟩
  | 101 => ⟨S8192x8192, .i32⟩
  | 102 => ⟨S_, .i32⟩
  | 103 => ⟨S8192x8192, .i32⟩
  | 104 => ⟨S8192x8192, .i1⟩
  | 105 => ⟨S_, .i32⟩
  | 106 => ⟨S8192x8192, .i32⟩
  | 107 => ⟨S8192x8192, .i32⟩
  | 108 => ⟨S_, .i32⟩
  | 109 => ⟨S8192x8192, .i32⟩
  | 110 => ⟨S8192x8192, .i1⟩
  | 111 => ⟨S_, .f32⟩
  | 112 => ⟨S_, .f32⟩
  | 113 => ⟨S8192x8192, .f32⟩
  | 114 => ⟨S8192x8192, .f32⟩
  | 115 => ⟨S8192x8192, .f32⟩
  | 116 => ⟨S_, .f32⟩
  | 117 => ⟨S_, .f32⟩
  | 118 => ⟨S8192x8192, .f32⟩
  | 119 => ⟨S8192x8192, .f32⟩
  | 120 => ⟨S8192x8192, .f32⟩
  | 121 => ⟨S8192x8192, .f32⟩
  | 122 => ⟨S_, .f32⟩
  | 123 => ⟨S_, .f32⟩
  | 124 => ⟨S8192x8192, .f32⟩
  | 125 => ⟨S8192x8192, .f32⟩
  | 126 => ⟨S8192x8192, .f32⟩
  | 127 => ⟨S_, .f32⟩
  | _ => ⟨S48x1x16384, .bf16⟩

abbrev hbmTy0_1 (i : Nat) : BufTy := match i % 128 with
  | 0 => ⟨S_, .f32⟩
  | 1 => ⟨S8192x8192, .f32⟩
  | 2 => ⟨S8192x8192, .f32⟩
  | 3 => ⟨S8192x8192, .f32⟩
  | 4 => ⟨S8192x8192, .f32⟩
  | 5 => ⟨S8192x8192, .f32⟩
  | 6 => ⟨S_, .f32⟩
  | 7 => ⟨S_, .f32⟩
  | 8 => ⟨S8192x8192, .f32⟩
  | 9 => ⟨S8192x8192, .f32⟩
  | 10 => ⟨S8192x8192, .f32⟩
  | 11 => ⟨S_, .f32⟩
  | 12 => ⟨S_, .f32⟩
  | 13 => ⟨S8192x8192, .f32⟩
  | 14 => ⟨S8192x8192, .f32⟩
  | 15 => ⟨S8192x8192, .f32⟩
  | 16 => ⟨S8192x8192, .f32⟩
  | 17 => ⟨S_, .f32⟩
  | 18 => ⟨S_, .f32⟩
  | 19 => ⟨S8192x8192, .f32⟩
  | 20 => ⟨S8192x8192, .f32⟩
  | 21 => ⟨S8192x8192, .f32⟩
  | 22 => ⟨S_, .f32⟩
  | 23 => ⟨S_, .f32⟩
  | 24 => ⟨S8192x8192, .f32⟩
  | 25 => ⟨S8192x8192, .f32⟩
  | 26 => ⟨S8192x8192, .f32⟩
  | 27 => ⟨S8192x8192, .f32⟩
  | 28 => ⟨S8192x8192, .f32⟩
  | 29 => ⟨S8192x8192, .f32⟩
  | 30 => ⟨S256x32x8192, .f32⟩
  | 31 => ⟨S256x1x8192, .f32⟩
  | 32 => ⟨S256x32x8192, .f32⟩
  | 33 => ⟨S256x32x8192, .f32⟩
  | 34 => ⟨S256x32x8192, .bf16⟩
  | 35 => ⟨S8192x8192, .bf16⟩
  | 36 => ⟨S48x1x8192, .bf16⟩
  | 37 => ⟨S48x1x8192, .f32⟩
  | 38 => ⟨S48x1x8192, .bf16⟩
  | 39 => ⟨S48x1x8192, .f32⟩
  | 40 => ⟨S48x1x8192, .f32⟩
  | 41 => ⟨S48x1x8192, .bf16⟩
  | 42 => ⟨S48x8192, .bf16⟩
  | _ => ⟨S48x1x16384, .bf16⟩

abbrev hbmTy (i : Nat) : BufTy := match i / 128 with
  | 0 => hbmTy0_0 i
  | 1 => hbmTy0_1 i
  | _ => ⟨S48x1x16384, .bf16⟩

abbrev bufTy : (tb : Table) → Fin (tcTables nBuf tb) → BufTy
  | .hbm, ⟨i, _⟩ => hbmTy i
  | _, _ => ⟨S48x1x16384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_c_0 : Ref sig .tc := ⟨.hbm, 7, rfl⟩
abbrev main_v3 : Ref sig .tc := ⟨.hbm, 8, rfl⟩
abbrev main_v4 : Ref sig .tc := ⟨.hbm, 9, rfl⟩
abbrev main_c_1 : Ref sig .tc := ⟨.hbm, 10, rfl⟩
abbrev main_v5 : Ref sig .tc := ⟨.hbm, 11, rfl⟩
abbrev main_v6 : Ref sig .tc := ⟨.hbm, 12, rfl⟩
abbrev main_c_2 : Ref sig .tc := ⟨.hbm, 13, rfl⟩
abbrev main_v7 : Ref sig .tc := ⟨.hbm, 14, rfl⟩
abbrev main_v8 : Ref sig .tc := ⟨.hbm, 15, rfl⟩
abbrev main_c_3 : Ref sig .tc := ⟨.hbm, 16, rfl⟩
abbrev main_v9 : Ref sig .tc := ⟨.hbm, 17, rfl⟩
abbrev main_v10 : Ref sig .tc := ⟨.hbm, 18, rfl⟩
abbrev main_c_4 : Ref sig .tc := ⟨.hbm, 19, rfl⟩
abbrev main_v11 : Ref sig .tc := ⟨.hbm, 20, rfl⟩
abbrev main_v12 : Ref sig .tc := ⟨.hbm, 21, rfl⟩
abbrev main_c_5 : Ref sig .tc := ⟨.hbm, 22, rfl⟩
abbrev main_v13 : Ref sig .tc := ⟨.hbm, 23, rfl⟩
abbrev main_v14 : Ref sig .tc := ⟨.hbm, 24, rfl⟩
abbrev main_c_6 : Ref sig .tc := ⟨.hbm, 25, rfl⟩
abbrev main_v15 : Ref sig .tc := ⟨.hbm, 26, rfl⟩
abbrev main_v16 : Ref sig .tc := ⟨.hbm, 27, rfl⟩
abbrev main_c_7 : Ref sig .tc := ⟨.hbm, 28, rfl⟩
abbrev main_v17 : Ref sig .tc := ⟨.hbm, 29, rfl⟩
abbrev main_v18 : Ref sig .tc := ⟨.hbm, 30, rfl⟩
abbrev main_c_8 : Ref sig .tc := ⟨.hbm, 31, rfl⟩
abbrev main_v19 : Ref sig .tc := ⟨.hbm, 32, rfl⟩
abbrev main_v20 : Ref sig .tc := ⟨.hbm, 33, rfl⟩
abbrev main_cst : Ref sig .tc := ⟨.hbm, 34, rfl⟩
abbrev main_cst_9 : Ref sig .tc := ⟨.hbm, 35, rfl⟩
abbrev main_call0_v0 : Ref sig .tc := ⟨.hbm, 36, rfl⟩
abbrev main_call0_v1 : Ref sig .tc := ⟨.hbm, 37, rfl⟩
abbrev main_v21 : Ref sig .tc := ⟨.hbm, 38, rfl⟩
abbrev main_cst_10 : Ref sig .tc := ⟨.hbm, 39, rfl⟩
abbrev main_cst_11 : Ref sig .tc := ⟨.hbm, 40, rfl⟩
abbrev main_call1_v0 : Ref sig .tc := ⟨.hbm, 41, rfl⟩
abbrev main_call1_v1 : Ref sig .tc := ⟨.hbm, 42, rfl⟩
abbrev main_v22 : Ref sig .tc := ⟨.hbm, 43, rfl⟩
abbrev main_v23 : Ref sig .tc := ⟨.hbm, 44, rfl⟩
abbrev main_cst_12 : Ref sig .tc := ⟨.hbm, 45, rfl⟩
abbrev main_cst_13 : Ref sig .tc := ⟨.hbm, 46, rfl⟩
abbrev main_call3_v0 : Ref sig .tc := ⟨.hbm, 47, rfl⟩
abbrev main_call3_v1 : Ref sig .tc := ⟨.hbm, 48, rfl⟩
abbrev main_v24 : Ref sig .tc := ⟨.hbm, 49, rfl⟩
abbrev main_cst_14 : Ref sig .tc := ⟨.hbm, 50, rfl⟩
abbrev main_cst_15 : Ref sig .tc := ⟨.hbm, 51, rfl⟩
abbrev main_call4_v0 : Ref sig .tc := ⟨.hbm, 52, rfl⟩
abbrev main_call4_v1 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_cst_16 : Ref sig .tc := ⟨.hbm, 57, rfl⟩
abbrev main_cst_17 : Ref sig .tc := ⟨.hbm, 58, rfl⟩
abbrev main_call7_v0 : Ref sig .tc := ⟨.hbm, 59, rfl⟩
abbrev main_call7_v1 : Ref sig .tc := ⟨.hbm, 60, rfl⟩
abbrev main_v28 : Ref sig .tc := ⟨.hbm, 61, rfl⟩
abbrev main_cst_18 : Ref sig .tc := ⟨.hbm, 62, rfl⟩
abbrev main_cst_19 : Ref sig .tc := ⟨.hbm, 63, rfl⟩
abbrev main_call8_v0 : Ref sig .tc := ⟨.hbm, 64, rfl⟩
abbrev main_call8_v1 : Ref sig .tc := ⟨.hbm, 65, rfl⟩
abbrev main_v29 : Ref sig .tc := ⟨.hbm, 66, rfl⟩
abbrev main_v30 : Ref sig .tc := ⟨.hbm, 67, rfl⟩
abbrev main_cst_20 : Ref sig .tc := ⟨.hbm, 68, rfl⟩
abbrev main_cst_21 : Ref sig .tc := ⟨.hbm, 69, rfl⟩
abbrev main_call10_v0 : Ref sig .tc := ⟨.hbm, 70, rfl⟩
abbrev main_call10_v1 : Ref sig .tc := ⟨.hbm, 71, rfl⟩
abbrev main_v31 : Ref sig .tc := ⟨.hbm, 72, rfl⟩
abbrev main_cst_22 : Ref sig .tc := ⟨.hbm, 73, rfl⟩
abbrev main_cst_23 : Ref sig .tc := ⟨.hbm, 74, rfl⟩
abbrev main_call11_v0 : Ref sig .tc := ⟨.hbm, 75, rfl⟩
abbrev main_call11_v1 : Ref sig .tc := ⟨.hbm, 76, rfl⟩
abbrev main_v32 : Ref sig .tc := ⟨.hbm, 77, rfl⟩
abbrev main_v33 : Ref sig .tc := ⟨.hbm, 78, rfl⟩
abbrev main_v34 : Ref sig .tc := ⟨.hbm, 79, rfl⟩
abbrev main_v35 : Ref sig .tc := ⟨.hbm, 80, rfl⟩
abbrev main_v36 : Ref sig .tc := ⟨.hbm, 81, rfl⟩
abbrev main_v37 : Ref sig .tc := ⟨.hbm, 82, rfl⟩
abbrev main_v38 : Ref sig .tc := ⟨.hbm, 83, rfl⟩
abbrev main_v39 : Ref sig .tc := ⟨.hbm, 84, rfl⟩
abbrev main_v40 : Ref sig .tc := ⟨.hbm, 85, rfl⟩
abbrev main_v41 : Ref sig .tc := ⟨.hbm, 86, rfl⟩
abbrev main_c_24 : Ref sig .tc := ⟨.hbm, 87, rfl⟩
abbrev main_v42 : Ref sig .tc := ⟨.hbm, 88, rfl⟩
abbrev main_v43 : Ref sig .tc := ⟨.hbm, 89, rfl⟩
abbrev main_c_25 : Ref sig .tc := ⟨.hbm, 90, rfl⟩
abbrev main_v44 : Ref sig .tc := ⟨.hbm, 91, rfl⟩
abbrev main_v45 : Ref sig .tc := ⟨.hbm, 92, rfl⟩
abbrev main_c_26 : Ref sig .tc := ⟨.hbm, 93, rfl⟩
abbrev main_v46 : Ref sig .tc := ⟨.hbm, 94, rfl⟩
abbrev main_v47 : Ref sig .tc := ⟨.hbm, 95, rfl⟩
abbrev main_c_27 : Ref sig .tc := ⟨.hbm, 96, rfl⟩
abbrev main_v48 : Ref sig .tc := ⟨.hbm, 97, rfl⟩
abbrev main_v49 : Ref sig .tc := ⟨.hbm, 98, rfl⟩
abbrev main_c_28 : Ref sig .tc := ⟨.hbm, 99, rfl⟩
abbrev main_v50 : Ref sig .tc := ⟨.hbm, 100, rfl⟩
abbrev main_v51 : Ref sig .tc := ⟨.hbm, 101, rfl⟩
abbrev main_c_29 : Ref sig .tc := ⟨.hbm, 102, rfl⟩
abbrev main_v52 : Ref sig .tc := ⟨.hbm, 103, rfl⟩
abbrev main_v53 : Ref sig .tc := ⟨.hbm, 104, rfl⟩
abbrev main_c_30 : Ref sig .tc := ⟨.hbm, 105, rfl⟩
abbrev main_v54 : Ref sig .tc := ⟨.hbm, 106, rfl⟩
abbrev main_v55 : Ref sig .tc := ⟨.hbm, 107, rfl⟩
abbrev main_c_31 : Ref sig .tc := ⟨.hbm, 108, rfl⟩
abbrev main_v56 : Ref sig .tc := ⟨.hbm, 109, rfl⟩
abbrev main_v57 : Ref sig .tc := ⟨.hbm, 110, rfl⟩
abbrev main_cst_32 : Ref sig .tc := ⟨.hbm, 111, rfl⟩
abbrev main_cst_33 : Ref sig .tc := ⟨.hbm, 112, rfl⟩
abbrev main_call15_v0 : Ref sig .tc := ⟨.hbm, 113, rfl⟩
abbrev main_call15_v1 : Ref sig .tc := ⟨.hbm, 114, rfl⟩
abbrev main_v58 : Ref sig .tc := ⟨.hbm, 115, rfl⟩
abbrev main_cst_34 : Ref sig .tc := ⟨.hbm, 116, rfl⟩
abbrev main_cst_35 : Ref sig .tc := ⟨.hbm, 117, rfl⟩
abbrev main_call16_v0 : Ref sig .tc := ⟨.hbm, 118, rfl⟩
abbrev main_call16_v1 : Ref sig .tc := ⟨.hbm, 119, rfl⟩
abbrev main_v59 : Ref sig .tc := ⟨.hbm, 120, rfl⟩
abbrev main_v60 : Ref sig .tc := ⟨.hbm, 121, rfl⟩
abbrev main_cst_36 : Ref sig .tc := ⟨.hbm, 122, rfl⟩
abbrev main_cst_37 : Ref sig .tc := ⟨.hbm, 123, rfl⟩
abbrev main_call18_v0 : Ref sig .tc := ⟨.hbm, 124, rfl⟩
abbrev main_call18_v1 : Ref sig .tc := ⟨.hbm, 125, rfl⟩
abbrev main_v61 : Ref sig .tc := ⟨.hbm, 126, rfl⟩
abbrev main_cst_38 : Ref sig .tc := ⟨.hbm, 127, rfl⟩
abbrev main_cst_39 : Ref sig .tc := ⟨.hbm, 128, rfl⟩
abbrev main_call19_v0 : Ref sig .tc := ⟨.hbm, 129, rfl⟩
abbrev main_call19_v1 : Ref sig .tc := ⟨.hbm, 130, rfl⟩
abbrev main_v62 : Ref sig .tc := ⟨.hbm, 131, rfl⟩
abbrev main_v63 : Ref sig .tc := ⟨.hbm, 132, rfl⟩
abbrev main_v64 : Ref sig .tc := ⟨.hbm, 133, rfl⟩
abbrev main_cst_40 : Ref sig .tc := ⟨.hbm, 134, rfl⟩
abbrev main_cst_41 : Ref sig .tc := ⟨.hbm, 135, rfl⟩
abbrev main_call22_v0 : Ref sig .tc := ⟨.hbm, 136, rfl⟩
abbrev main_call22_v1 : Ref sig .tc := ⟨.hbm, 137, rfl⟩
abbrev main_v65 : Ref sig .tc := ⟨.hbm, 138, rfl⟩
abbrev main_cst_42 : Ref sig .tc := ⟨.hbm, 139, rfl⟩
abbrev main_cst_43 : Ref sig .tc := ⟨.hbm, 140, rfl⟩
abbrev main_call23_v0 : Ref sig .tc := ⟨.hbm, 141, rfl⟩
abbrev main_call23_v1 : Ref sig .tc := ⟨.hbm, 142, rfl⟩
abbrev main_v66 : Ref sig .tc := ⟨.hbm, 143, rfl⟩
abbrev main_v67 : Ref sig .tc := ⟨.hbm, 144, rfl⟩
abbrev main_cst_44 : Ref sig .tc := ⟨.hbm, 145, rfl⟩
abbrev main_cst_45 : Ref sig .tc := ⟨.hbm, 146, rfl⟩
abbrev main_call25_v0 : Ref sig .tc := ⟨.hbm, 147, rfl⟩
abbrev main_call25_v1 : Ref sig .tc := ⟨.hbm, 148, rfl⟩
abbrev main_v68 : Ref sig .tc := ⟨.hbm, 149, rfl⟩
abbrev main_cst_46 : Ref sig .tc := ⟨.hbm, 150, rfl⟩
abbrev main_cst_47 : Ref sig .tc := ⟨.hbm, 151, rfl⟩
abbrev main_call26_v0 : Ref sig .tc := ⟨.hbm, 152, rfl⟩
abbrev main_call26_v1 : Ref sig .tc := ⟨.hbm, 153, rfl⟩
abbrev main_v69 : Ref sig .tc := ⟨.hbm, 154, rfl⟩
abbrev main_v70 : Ref sig .tc := ⟨.hbm, 155, rfl⟩
abbrev main_v71 : Ref sig .tc := ⟨.hbm, 156, rfl⟩
abbrev main_v72 : Ref sig .tc := ⟨.hbm, 157, rfl⟩
abbrev main_v73 : Ref sig .tc := ⟨.hbm, 158, rfl⟩
abbrev main_v74 : Ref sig .tc := ⟨.hbm, 159, rfl⟩
abbrev main_v75 : Ref sig .tc := ⟨.hbm, 160, rfl⟩
abbrev main_v76 : Ref sig .tc := ⟨.hbm, 161, rfl⟩
abbrev main_v77 : Ref sig .tc := ⟨.hbm, 162, rfl⟩
abbrev main_v78 : Ref sig .tc := ⟨.hbm, 163, rfl⟩
abbrev main_v79 : Ref sig .tc := ⟨.hbm, 164, rfl⟩
abbrev main_v80 : Ref sig .tc := ⟨.hbm, 165, rfl⟩
abbrev main_v81 : Ref sig .tc := ⟨.hbm, 166, rfl⟩
abbrev main_v82 : Ref sig .tc := ⟨.hbm, 167, rfl⟩
abbrev main_v83 : Ref sig .tc := ⟨.hbm, 168, rfl⟩
abbrev main_v84 : Ref sig .tc := ⟨.hbm, 169, rfl⟩
abbrev main_v85 : Ref sig .tc := ⟨.hbm, 170, rfl⟩

abbrev nD : Nat := 1
abbrev τ : Topo := Topo.v7x

variable {F : FTy → Type} [FloatOps F]
-- ==== Proof.Decode.lean ====
module

public import proofs.«01_k».proof.Proof.Gen.Kernel

@[expose] public section

set_option maxRecDepth 16384

noncomputable section

/-! The kernel's decoding of one block of packed codes, named piece by piece. -/

namespace Cert.Kernel.Decode
open Cert.Kernel Cert.Kernel.Gen Idealize.ShloMosaic

variable {F : FTy → Type} [BitOps F]

/-- One byte lane of the byte gather: for the byte of `i` at bit offset `s`, the byte of the 32-byte column of `t` it
names (word `byte / 4`, byte `byte % 4` of that word), put back at bit offset `s`. -/
def lane (t i : IVec S8x128 32) (s : BitVec 32) : IVec S8x128 32 :=
  let j : IVec S8x128 32 := andi (shrsi i (broadcast S8x128 s)) (broadcast S8x128 31#32)
  let g : IVec S8x128 32 := dynamicGather 0 t
    (shapeCast S8x128 (shapeCast S8x128x1 (shrsi j (broadcast S8x128 2#32)) shapeCasts_S8x128_S8x128x1) shapeCasts_S8x128x1_S8x128)
  shli (andi (shrsi g (shli (andi j (broadcast S8x128 3#32)) (broadcast S8x128 3#32))) (broadcast S8x128 255#32)) (broadcast S8x128 s)

/-- The gather along 32 byte rows: row `r` of the result is the row of `t` that byte `r` of `i` names. -/
def take0 (t i : IVec S32x128 8) : IVec S32x128 8 :=
  let t' : IVec S8x128 32 := bitcast S8x128 32 t bitcasts_S32x128_w8_S8x128_w32
  let i' : IVec S8x128 32 := bitcast S8x128 32 i bitcasts_S32x128_w8_S8x128_w32
  bitcast S32x128 8 (ori (ori (ori (lane t' i' 0#32) (lane t' i' 8#32)) (lane t' i' 16#32)) (lane t' i' 24#32))
    bitcasts_S8x128_w32_S32x128_w8

/-- The bytes of even byte rows: in each half word, the byte of `a` below the byte of `b`. -/
def even (a b : IVec S8x128 32) : IVec S8x128 32 :=
  ori (andi a (broadcast S8x128 16711935#32)) (shli (andi b (broadcast S8x128 16711935#32)) (broadcast S8x128 8#32))

/-- The mask of the odd byte rows. -/
def oddRows : IVec S32x128 1 :=
  cmpi .eq (andi (iota .tc S32x128 32 [0] iota_S32x128_d0_w32) (broadcast S32x128 1#32)) (broadcast S32x128 1#32)

/-- The bytes of odd byte rows: in each half word, the byte of `a` below the byte of `b`. -/
def odd (a b : IVec S8x128 32) : IVec S8x128 32 :=
  bitcast S8x128 32 (select oddRows (bitcast S32x128 8 b bitcasts_S8x128_w32_S32x128_w8)
    (bitcast S32x128 8 (shrui a (broadcast S8x128 8#32)) bitcasts_S8x128_w32_S32x128_w8)) bitcasts_S32x128_w8_S8x128_w32

/-- A word vector gathered out of a byte table, read as words again. -/
def codes (t : IVec S32x128 8) (w : IVec S8x128 32) : IVec S8x128 32 :=
  bitcast S8x128 32 (take0 t (bitcast S32x128 8 w bitcasts_S8x128_w32_S32x128_w8)) bitcasts_S32x128_w8_S8x128_w32

/-- Words read as pairs of bf16 rows. -/
def rows (v : IVec S8x128 32) : FVec F S16x128 .bf16 :=
  bitcastToFloat .bf16 (bitcast S16x128 16 v bitcasts_S8x128_w32_S16x128_w16)

/-- The 16 scaled table entries of a block, as 32 byte rows: word `r` holds entry `r` below entry `r + 8`. -/
def table (t0 t1 : FVec F S8x128 .f32) (a : Vec F S1x128 .f32) : IVec S32x128 8 :=
  let a8 : FVec F S8x128 .f32 := broadcastTo S8x128 (shapeCast S1x128 a shapeCasts_S1x128_S1x128) broadcasts_S1x128_S8x128
  bitcast S32x128 8 (packElementwise (mulf t0 a8) (mulf t1 a8)) bitcasts_S8x128_w32_S32x128_w8

/-- The 64 decoded rows of one block of 32 packed rows. -/
def decode (t0 t1 : FVec F S8x128 .f32) (klo khi : IVec S32x128 8) (wb : IVec S32x128 8) (a : Vec F S1x128 .f32) : FVec F S64x128 .bf16 :=
  let w : IVec S8x128 32 := bitcast S8x128 32 wb bitcasts_S32x128_w8_S8x128_w32
  let w' : IVec S8x128 32 := shrui w (broadcast S8x128 4#32)
  let lo : IVec S32x128 8 := take0 (table t0 t1 a) klo
  let hi : IVec S32x128 8 := take0 (table t0 t1 a) khi
  concatenate S64x128 0
    [⟨S16x128, rows (even (codes lo w) (codes hi w))⟩, ⟨S16x128, rows (even (codes lo w') (codes hi w'))⟩,
     ⟨S16x128, rows (odd (codes lo w) (codes hi w))⟩, ⟨S16x128, rows (odd (codes lo w') (codes hi w'))⟩]
    concatenates_S16x128_S16x128_S16x128_S16x128_S64x128_d0

/-- Two decoded blocks side by side. -/
def pair (u v : FVec F S64x128 .bf16) : FVec F S64x256 .bf16 :=
  concatenate S64x256 1 [⟨S64x128, u⟩, ⟨S64x128, v⟩] concatenates_S64x128_S64x128_S64x256_d1

/-- Four such pairs, one below another. -/
def stack (p q r s : FVec F S64x256 .bf16) : FVec F S256x256 .bf16 :=
  concatenate S256x256 0 [⟨S64x256, p⟩, ⟨S64x256, q⟩, ⟨S64x256, r⟩, ⟨S64x256, s⟩]
    concatenates_S64x256_S64x256_S64x256_S64x256_S256x256_d0

end Cert.Kernel.Decode
-- ==== Proof.Chunks.lean ====
module

public import proofs.«01_k».proof.Proof.Gen.Ordered
public import Idealize.ShloMosaic.Lib.Pipeline.ValueKit
public import Idealize.ShloMosaic.Lib.WholeRead

@[expose] public section

set_option maxRecDepth 16384

noncomputable section

/-! The product both kernels compute, stated once over plain arrays: a `48 × 16384` activation array against a
`16384 × 8192` weight array, accumulated in f32 over 64 chunks of 256 rows, one 256-column block at a time, and rounded
to bf16 at the end. -/

namespace Cert.Chunks
open Cert.Ordered Cert.Ordered.Gen Idealize.ShloMosaic

variable {F : FTy → Type} [FloatOps F]

/-- Chunk `k` of the activations: columns `256 k … 256 k + 255`. -/
def xChunk (X : Vec F S48x16384 .bf16) (k : ℕ) : Vec F S48x256 .bf16 :=
  fun p => X (ix2 (p 0) (⟨(256 * k + (p 1).val) % 16384, Nat.mod_lt _ (by decide)⟩ : Fin 16384))

/-- Tile `(k, j)` of the weights: rows `256 k … 256 k + 255` of columns `256 j … 256 j + 255`. -/
def wTile (W : Vec F S16384x8192 .bf16) (j k : ℕ) : Vec F S256x256 .bf16 :=
  fun p => W (ix2 (⟨(256 * k + (p 0).val) % 16384, Nat.mod_lt _ (by decide)⟩ : Fin 16384)
    (⟨(256 * j + (p 1).val) % 8192, Nat.mod_lt _ (by decide)⟩ : Fin 8192))

/-- One step of the accumulation: the f32 accumulator plus the product of a chunk and a tile. -/
def step (acc : FVec F S48x256 .f32) (x : Vec F S48x256 .bf16) (w : Vec F S256x256 .bf16) : FVec F S48x256 .f32 :=
  addf acc (matmul dot_S48x256_S256x256_S48x256_1_0_0_1_n_n none x w (constant S48x256 .f32 0x00000000#32))

/-- The accumulator after `n` steps, from zero. -/
def acc (x : ℕ → Vec F S48x256 .bf16) (w : ℕ → Vec F S256x256 .bf16) : ℕ → FVec F S48x256 .f32
  | 0 => broadcast S48x256 (Scalar.ofBits .f32 0x00000000#32)
  | n + 1 => step (acc x w n) (x n) (w n)

/-- The accumulator depends only on the chunks and tiles met so far. -/
theorem acc_congr {x x' : ℕ → Vec F S48x256 .bf16} {w w' : ℕ → Vec F S256x256 .bf16} (n : ℕ)
    (hx : ∀ k < n, x k = x' k) (hw : ∀ k < n, w k = w' k) : acc x w n = acc x' w' n := by
  induction n with
  | zero => rfl
  | succ n ih =>
    show step _ _ _ = step _ _ _
    rw [ih (fun k h => hx k (by omega)) (fun k h => hw k (by omega)), hx n (by omega), hw n (by omega)]

/-- Column block `j` of the product, rounded to bf16. -/
def block (X : Vec F S48x16384 .bf16) (W : Vec F S16384x8192 .bf16) (j : ℕ) : FVec F S48x256 .bf16 :=
  truncf .bf16 (acc (xChunk X) (wTile W j) 64) bitsLt_bf16_f32

/-- The whole product: entry `(b, c)` is entry `(b, c % 256)` of column block `c / 256`. -/
def product (X : Vec F S48x16384 .bf16) (W : Vec F S16384x8192 .bf16) : Vec F S48x8192 .bf16 :=
  fun y => block X W ((y 1).val / 256) (ix2 (y 0) (⟨(y 1).val % 256, Nat.mod_lt _ (by decide)⟩ : Fin 256))

/-- A load through a unit-stride rectangle of a rank-2 buffer that reads `X` is `X` at the shifted index. -/
theorem read_unit {sig : RefSig} {κ : Kind} {sp : Space} {a b n0 n1 : ℕ} {e : EltTy}
    {m : Memref sig κ sp ⟨2, ![a, b]⟩ e} (hm : m.IsWhole) (X : (⟨2, ![a, b]⟩ : Shape).Idx → Elt F e)
    {off : Fin 2 → ℕ} {o0 o1 : ℕ} (ho : off = ![o0, o1])
    (inb : ∀ i, off i + (![n0, n1] : Fin 2 → ℕ) i ≤ (⟨2, ![a, b]⟩ : Shape).size i)
    (p : (⟨2, ![n0, n1]⟩ : Shape).Idx) (j0 : Fin a) (j1 : Fin b)
    (h0 : (j0 : ℕ) = o0 + (p 0).val) (h1 : (j1 : ℕ) = o1 + (p 1).val) :
    View.readAt (Elt F) m.view (Rect.unit (s := ⟨2, ![a, b]⟩) off ![n0, n1] inb).toLoadRect (hm.unread X) p = X (ix2 j0 j1) := by
  subst ho
  refine (Memref.IsWhole.readAt_unread hm X (Rect.unit (s := ⟨2, ![a, b]⟩) ![o0, o1] ![n0, n1] inb).toLoadRect p).trans (congrArg X (funext fun i => Fin.ext ?_))
  refine (Rect.idx_unit_val (s := ⟨2, ![a, b]⟩) ![o0, o1] ![n0, n1] inb p i).trans ?_
  match i with
  | ⟨0, _⟩ => exact h0.symm
  | ⟨1, _⟩ => exact h1.symm

/-- An entry at a column `256 h + r`, `r < 256`, is entry `r` of block `h`. -/
theorem pick {α : Type} {n : ℕ} (f : ℕ → S48x256.Idx → α) (h : ℕ) (q : S48x256.Idx) (z : (⟨2, ![48, n]⟩ : Shape).Idx)
    (h0 : (z 0).val = (q 0).val) (h1 : (z 1).val = 256 * h + (q 1).val) :
    f h q = f ((z 1).val / 256) (ix2 (z 0) (⟨(z 1).val % 256, Nat.mod_lt _ (by decide)⟩ : Fin 256)) := by
  have hq : (q 1).val < 256 := (q 1).isLt
  have e : (z 1).val / 256 = h := by omega
  rw [e]
  refine congrArg (f h) (funext fun i => Fin.ext ?_)
  match i with
  | ⟨0, _⟩ => exact h0.symm
  | ⟨1, _⟩ => show (q 1).val = (z 1).val % 256; omega

end Cert.Chunks
-- ==== Proof.KernelTrip.lean ====
module

public import proofs.«01_k».proof.Proof.Gen.Kernel.Value
public import proofs.«01_k».proof.Proof.Decode
public import proofs.«01_k».proof.Proof.Chunks

@[expose] public section

set_option maxRecDepth 16384

noncomputable section

namespace Cert.Kernel.Tile
open Cert.Kernel Cert.Kernel.Gen Cert.Kernel.Decode Idealize.ShloMosaic Idealize.ShloMosaic.TcCoe Idealize.SL.Sem
open Idealize.ShloMosaic.Pipeline (Dat)
open Cert.Chunks (step xChunk)

variable {F : FTy → Type} [BitOps F]

section Loops

variable (c : Dev nD) (i : grid0.Coords)
  (arg1 : Memref sig .tc .vmem S48x16384 .bf16) (harg1 : arg1.IsWhole)
  (arg2 : Memref sig .tc .vmem S16x128 .f32) (harg2 : arg2.IsWhole)
  (arg3 : Memref sig .tc .vmem S32x128 .i8) (harg3 : arg3.IsWhole)
  (arg4 : Memref sig .tc .vmem S32x128 .i8) (harg4 : arg4.IsWhole)
  (arg5 : Memref sig .tc .vmem S8192x512 .i8) (harg5 : arg5.IsWhole)
  (arg6 : Memref sig .tc .vmem S256x512 .f32) (harg6 : arg6.IsWhole)
  (arg7 : Memref sig .tc .vmem S48x512 .bf16) (harg7 : arg7.IsWhole)
  (v0 v2 : Vec F S8x128 .f32) (v4 v6 : Vec F S32x128 .i8)
  (X1 : BufTy.Contents (Elt F) arg1.view.ty) (X5 : BufTy.Contents (Elt F) arg5.view.ty) (X6 : BufTy.Contents (Elt F) arg6.view.ty)

/-- The decoded block of the loaded codes and scales. -/
def dec (off5 : Fin 2 → ℕ) (h5 : ∀ a, off5 a + S32x128.size a ≤ S8192x512.size a)
    (off6 : Fin 2 → ℕ) (h6 : ∀ a, off6 a + S1x128.size a ≤ S256x512.size a) : FVec F S64x128 .bf16 :=
  decode (shapeCast S8x128 v0 shapeCasts_S8x128_S8x128) (shapeCast S8x128 v2 shapeCasts_S8x128_S8x128)
    (shapeCast S32x128 v4 shapeCasts_S32x128_S32x128) (shapeCast S32x128 v6 shapeCasts_S32x128_S32x128)
    (View.readAt (Elt F) arg5.view (Rect.unit (s := S8192x512) off5 S32x128.size h5).toLoadRect X5)
    (View.readAt (Elt F) arg6.view (Rect.unit (s := S256x512) off6 S1x128.size h6).toLoadRect X6)

/-- One trip of the first loop: one accumulation step on the four decoded blocks of its rows, left half. -/
theorem trip1_eq (k : Fin k0_t1_loop.trips) (a : FVec F S48x256 .f32) :
    tripR_k0_t1 Variants.none c none i arg1 harg1 arg2 harg2 arg3 harg3 arg4 harg4 arg5 harg5 arg6 harg6 arg7 harg7
      v0 v2 v4 v6 X1 X5 X6 k a
      = step a
        (shapeCast S48x256 (View.readAt (Elt F) arg1.view
          (Rect.unit (s := S48x16384) (k0_off5 k) S48x256.size (k0_off5_inb k)).toLoadRect X1) shapeCasts_S48x256_S48x256)
        (stack
          (pair (dec arg5 arg6 v0 v2 v4 v6 X5 X6 (k0_off1 k 0#32) (k0_off1_inb k 0) (k0_off2 k 0#32) (k0_off2_inb k 0))
          (dec arg5 arg6 v0 v2 v4 v6 X5 X6 (k0_off3 k 0#32) (k0_off3_inb k 0) (k0_off4 k 0#32) (k0_off4_inb k 0)))
          (pair (dec arg5 arg6 v0 v2 v4 v6 X5 X6 (k0_off1 k 1#32) (k0_off1_inb k 1) (k0_off2 k 1#32) (k0_off2_inb k 1))
          (dec arg5 arg6 v0 v2 v4 v6 X5 X6 (k0_off3 k 1#32) (k0_off3_inb k 1) (k0_off4 k 1#32) (k0_off4_inb k 1)))
          (pair (dec arg5 arg6 v0 v2 v4 v6 X5 X6 (k0_off1 k 2#32) (k0_off1_inb k 2) (k0_off2 k 2#32) (k0_off2_inb k 2))
          (dec arg5 arg6 v0 v2 v4 v6 X5 X6 (k0_off3 k 2#32) (k0_off3_inb k 2) (k0_off4 k 2#32) (k0_off4_inb k 2)))
          (pair (dec arg5 arg6 v0 v2 v4 v6 X5 X6 (k0_off1 k 3#32) (k0_off1_inb k 3) (k0_off2 k 3#32) (k0_off2_inb k 3))
          (dec arg5 arg6 v0 v2 v4 v6 X5 X6 (k0_off3 k 3#32) (k0_off3_inb k 3) (k0_off4 k 3#32) (k0_off4_inb k 3)))) := by
  unfold tripR_k0_t1 trip_k0_t1
  rfl

/-- One trip of the second loop: one accumulation step on the four decoded blocks of its rows, right half. -/
theorem trip2_eq (k : Fin k0_t2_loop.trips) (a : FVec F S48x256 .f32) :
    tripR_k0_t2 Variants.none c none i arg1 harg1 arg2 harg2 arg3 harg3 arg4 harg4 arg5 harg5 arg6 harg6 arg7 harg7
      v0 v2 v4 v6 X1 X5 X6 k a
      = step a
        (shapeCast S48x256 (View.readAt (Elt F) arg1.view
          (Rect.unit (s := S48x16384) (k0_off10 k) S48x256.size (k0_off10_inb k)).toLoadRect X1) shapeCasts_S48x256_S48x256)
        (stack
          (pair (dec arg5 arg6 v0 v2 v4 v6 X5 X6 (k0_off6 k 0#32) (k0_off6_inb k 0) (k0_off7 k 0#32) (k0_off7_inb k 0))
          (dec arg5 arg6 v0 v2 v4 v6 X5 X6 (k0_off8 k 0#32) (k0_off8_inb k 0) (k0_off9 k 0#32) (k0_off9_inb k 0)))
          (pair (dec arg5 arg6 v0 v2 v4 v6 X5 X6 (k0_off6 k 1#32) (k0_off6_inb k 1) (k0_off7 k 1#32) (k0_off7_inb k 1))
          (dec arg5 arg6 v0 v2 v4 v6 X5 X6 (k0_off8 k 1#32) (k0_off8_inb k 1) (k0_off9 k 1#32) (k0_off9_inb k 1)))
          (pair (dec arg5 arg6 v0 v2 v4 v6 X5 X6 (k0_off6 k 2#32) (k0_off6_inb k 2) (k0_off7 k 2#32) (k0_off7_inb k 2))
          (dec arg5 arg6 v0 v2 v4 v6 X5 X6 (k0_off8 k 2#32) (k0_off8_inb k 2) (k0_off9 k 2#32) (k0_off9_inb k 2)))
          (pair (dec arg5 arg6 v0 v2 v4 v6 X5 X6 (k0_off6 k 3#32) (k0_off6_inb k 3) (k0_off7 k 3#32) (k0_off7_inb k 3))
          (dec arg5 arg6 v0 v2 v4 v6 X5 X6 (k0_off8 k 3#32) (k0_off8_inb k 3) (k0_off9 k 3#32) (k0_off9_inb k 3)))) := by
  unfold tripR_k0_t2 trip_k0_t2
  rfl

end Loops
end Cert.Kernel.Tile
-- ==== Proof.Bytes.lean ====
module

public import proofs.«01_k».proof.Proof.Decode
public import Idealize.ShloMosaic.Lib.BitcastFour
public import Idealize.ShloMosaic.Lib.Pipeline.ValueKit

@[expose] public section

set_option maxRecDepth 16384

noncomputable section

/-! The decoding's word operations read byte by byte. -/

namespace Cert.Kernel.Decode
open Cert.Kernel Cert.Kernel.Gen Idealize.ShloMosaic

/-- Byte `q` of a 32-bit word, counted from the low end. -/
def byte (w : BitVec 32) (q : ℕ) : BitVec 8 := w.extractLsb' (8 * q) 8

/-- Bit `b` of byte `q`. -/
theorem byte_bit (w : BitVec 32) (q b : ℕ) (hb : b < 8) : (byte w q).getLsbD b = w.getLsbD (8 * q + b) := by
  unfold byte
  rw [BitVec.getLsbD_extractLsb']
  simp [hb]

theorem byte_ext {x y : BitVec 8} (h : ∀ b < 8, x.getLsbD b = y.getLsbD b) : x = y :=
  BitVec.eq_of_getLsbD_eq fun b hb => h b hb

/-- The bits of a mask of low ones. -/
theorem mask_bit : ∀ n ∈ ([5, 8] : List ℕ), ∀ b < 32, (BitVec.ofNat 32 (2 ^ n - 1)).getLsbD b = decide (b < n) := by decide

/-- Words read as bytes: byte row `ρ` is byte `ρ % 4` of word row `ρ / 4`. -/
theorem bytes_of_words (v : IVec S8x128 32) (h) (ρ : Fin 32) (l : Fin 128) (r : Fin 8) (hr : r.val = ρ.val / 4) :
    bitcast S32x128 8 v h (ix2 ρ l) = byte (v (ix2 r l)) (ρ.val % 4) := by
  refine byte_ext fun b hb => ?_
  rw [bitcast_getLsbD v h (ix2 ρ l) b hb (by decide), byte_bit _ _ _ hb]
  have er : S32x128.row (ix2 ρ l) = ρ.val := rfl
  have e1 : (S32x128.row (ix2 ρ l) * 8 + b) / 32 = r.val := by rw [er]; omega
  have e2 : (S32x128.row (ix2 ρ l) * 8 + b) % 32 = 8 * (ρ.val % 4) + b := by rw [er]; omega
  rw [e2]
  congr 2
  funext c
  match c with
  | ⟨0, _⟩ => exact Fin.ext ((h.srcIdx_row _ _ _ ⟨0, Nat.zero_lt_two⟩ rfl).trans e1)
  | ⟨1, _⟩ => exact Fin.ext (h.srcIdx_other _ _ _ ⟨1, Nat.one_lt_two⟩ (by show ¬ 1 + 2 = 2; omega))

/-- Bytes read as words: byte `q` of word row `r` is byte row `4 r + q`. -/
theorem byte_of_bytes (t : IVec S32x128 8) (h) (r : Fin 8) (l : Fin 128) (q : ℕ) (hq : q < 4) (ρ : Fin 32)
    (hρ : ρ.val = 4 * r.val + q) : byte (bitcast S8x128 32 t h (ix2 r l)) q = t (ix2 ρ l) := by
  refine byte_ext fun b hb => ?_
  rw [byte_bit _ _ _ hb]
  refine (bitcast_8_32_getLsbD_ix2 t h r l (8 * q + b) (by omega) ρ (by omega)).trans ?_
  rw [show (8 * q + b) % 8 = b by omega]
  rfl

/-- The low five bits of byte `p`, brought down by the arithmetic shift. -/
theorem index_word (x : BitVec 32) (p : ℕ) (hp : p < 4) :
    x.sshiftRight (8 * p) &&& 31#32 = BitVec.ofNat 32 ((byte x p).toNat % 32) := by
  have e : BitVec.ofNat 32 ((byte x p).toNat % 32) = ((byte x p) &&& 31#8).setWidth 32 := by
    apply BitVec.eq_of_toNat_eq
    have h := (byte x p).isLt
    rw [BitVec.toNat_setWidth, BitVec.toNat_and, BitVec.toNat_ofNat]
    have : (byte x p).toNat &&& (31#8).toNat = (byte x p).toNat % 32 := Nat.and_two_pow_sub_one_eq_mod _ 5
    rw [this]
  rw [e]
  refine BitVec.eq_of_getLsbD_eq fun b hb => ?_
  have m1 := mask_bit 5 (by decide) b hb
  rw [show (2 ^ 5 - 1 : ℕ) = 31 from rfl] at m1
  rw [BitVec.getLsbD_and, m1, BitVec.getLsbD_setWidth, BitVec.getLsbD_and]
  by_cases h5 : b < 5
  · rw [byte_bit _ _ _ (by omega), BitVec.getLsbD_sshiftRight]
    have m2 : (31#8).getLsbD b = true := by
      have : ∀ b < 5, (31#8).getLsbD b = true := by decide
      exact this b h5
    simp [h5, hb, m2, show ¬ 32 ≤ b by omega, show 8 * p + b < 32 by omega]
  · have m2 : (31#8).getLsbD b = false := by
      have : ∀ b < 32, 5 ≤ b → (31#8).getLsbD b = false := by decide
      exact this b hb (by omega)
    simp [h5, m2]

/-- A byte taken out of `g` at bit offset `8 m` and put back at bit offset `8 p`. -/
theorem moved_byte (g : BitVec 32) (m p q : ℕ) (hm : m < 4) (hp : p < 4) (hq : q < 4) :
    byte ((g.sshiftRight (8 * m) &&& 255#32) <<< (8 * p)) q = if q = p then byte g m else 0#8 := by
  refine byte_ext fun b hb => ?_
  rw [byte_bit _ _ _ hb, BitVec.getLsbD_shiftLeft, BitVec.getLsbD_and]
  have m1 := mask_bit 8 (by decide) (8 * q + b - 8 * p) (by omega)
  rw [show (2 ^ 8 - 1 : ℕ) = 255 from rfl] at m1
  rw [m1]
  split
  · rename_i h
    subst h
    rw [byte_bit _ _ _ hb, BitVec.getLsbD_sshiftRight]
    simp [show 8 * q + b < 32 by omega, show 8 * q + b - 8 * q = b by omega, hb, show ¬ 32 ≤ b by omega,
      show 8 * m + b < 32 by omega]
  · rename_i h
    rcases Nat.lt_or_gt_of_ne h with h | h
    · simp [show 8 * q + b < 8 * p by omega]
    · simp [show ¬ 8 * q + b - 8 * p < 8 by omega]

/-- What the index word of a lane selects: a word row and a byte offset. -/
theorem index_facts : ∀ k < 32,
    (IntOp.shrsi .vector (BitVec.ofNat 32 k) 2#32).toNat = k / 4
    ∧ (IntOp.shli .vector (IntOp.andi (BitVec.ofNat 32 k) 3#32) 3#32).toNat = 8 * (k % 4) := by decide

/-- One lane of the byte gather: byte `p` is the byte of `t` that byte `p` of `i` names, the other bytes zero. -/
theorem lane_byte (t i : IVec S8x128 32) (r : Fin 8) (l : Fin 128) (p q : ℕ) (hp : p < 4) (hq : q < 4) (k : ℕ)
    (hk : (byte (i (ix2 r l)) p).toNat % 32 = k) (s : Fin 8) (hs : s.val = k / 4) :
    byte (lane t i (BitVec.ofNat 32 (8 * p)) (ix2 r l)) q = if q = p then byte (t (ix2 s l)) (k % 4) else 0#8 := by
  have hk' : k < 32 := by omega
  have e8 : (BitVec.ofNat 32 (8 * p)).toNat = 8 * p := by rw [BitVec.toNat_ofNat]; omega
  have hj : IntOp.andi (IntOp.shrsi .vector (i (ix2 r l)) (BitVec.ofNat 32 (8 * p))) 31#32 = BitVec.ofNat 32 k := by
    unfold IntOp.andi IntOp.shrsi
    rw [if_pos (by omega), BitVec.sshiftRight', e8, index_word _ _ hp, hk]
  obtain ⟨f1, f2⟩ := index_facts k hk'
  have hg : dynamicGather 0 t
      (shapeCast S8x128 (shapeCast S8x128x1 (shrsi (andi (shrsi i (broadcast S8x128 (BitVec.ofNat 32 (8 * p)))) (broadcast S8x128 31#32))
        (broadcast S8x128 2#32)) shapeCasts_S8x128_S8x128x1) shapeCasts_S8x128x1_S8x128) (ix2 r l) = t (ix2 s l) := by
    rw [shapeCast_shapeCast]
    unfold dynamicGather
    refine congrArg t (funext fun c => ?_)
    match c with
    | ⟨0, _⟩ =>
      refine Fin.ext ?_
      show (IntOp.shrsi .vector (IntOp.andi (IntOp.shrsi .vector (i (ix2 r l)) (BitVec.ofNat 32 (8 * p))) 31#32) 2#32).toNat % 8 = s.val
      rw [hj, f1]; omega
    | ⟨1, _⟩ => rfl
  have : lane t i (BitVec.ofNat 32 (8 * p)) (ix2 r l)
      = ((t (ix2 s l)).sshiftRight (8 * (k % 4)) &&& 255#32) <<< (8 * p) := by
    unfold lane
    show IntOp.shli .vector (IntOp.andi (IntOp.shrsi .vector (dynamicGather 0 t _ (ix2 r l))
      (IntOp.shli .vector (IntOp.andi (IntOp.andi (IntOp.shrsi .vector (i (ix2 r l)) (BitVec.ofNat 32 (8 * p))) 31#32) 3#32) 3#32)) 255#32)
      (BitVec.ofNat 32 (8 * p)) = _
    rw [hg, hj]
    generalize IntOp.shli .vector (IntOp.andi (BitVec.ofNat 32 k) 3#32) 3#32 = z at f2
    unfold IntOp.shli IntOp.andi IntOp.shrsi
    rw [if_pos (by omega), if_pos (by omega), BitVec.sshiftRight', f2, BitVec.shiftLeft_eq', e8]
  rw [this, moved_byte _ _ _ _ (by omega) hp hq]

theorem byte_or (a b : BitVec 32) (q : ℕ) : byte (a ||| b) q = byte a q ||| byte b q := by
  refine byte_ext fun c hc => ?_
  rw [BitVec.getLsbD_or, byte_bit _ _ _ hc, byte_bit _ _ _ hc, byte_bit _ _ _ hc, BitVec.getLsbD_or]

/-- The byte gather: byte row `ρ` of the result is the row of `t` that byte row `ρ` of `i` names, modulo 32. -/
theorem take0_apply (t i : IVec S32x128 8) (ρ : Fin 32) (l : Fin 128) :
    take0 t i (ix2 ρ l) = t (ix2 (⟨(i (ix2 ρ l)).toNat % 32, Nat.mod_lt _ (by decide)⟩ : Fin 32) l) := by
  have hρ := ρ.isLt
  obtain ⟨r, hr⟩ : ∃ r : Fin 8, r.val = ρ.val / 4 := ⟨⟨ρ.val / 4, by omega⟩, rfl⟩
  have hq : ρ.val % 4 < 4 := Nat.mod_lt _ (by decide)
  unfold take0
  rw [bytes_of_words _ _ ρ l r hr]
  have L : ∀ p < 4, byte (lane (bitcast S8x128 32 t bitcasts_S32x128_w8_S8x128_w32) (bitcast S8x128 32 i bitcasts_S32x128_w8_S8x128_w32)
      (BitVec.ofNat 32 (8 * p)) (ix2 r l)) (ρ.val % 4)
      = if ρ.val % 4 = p then t (ix2 (⟨(i (ix2 ρ l)).toNat % 32, Nat.mod_lt _ (by decide)⟩ : Fin 32) l) else 0#8 := by
    intro p hp
    have hb := byte_of_bytes i bitcasts_S32x128_w8_S8x128_w32 r l p hp ⟨4 * r.val + p, by omega⟩ rfl
    by_cases h : ρ.val % 4 = p
    · have eρ : (⟨4 * r.val + p, by omega⟩ : Fin 32) = ρ := Fin.ext (by show 4 * r.val + p = ρ.val; omega)
      rw [eρ] at hb
      have hk : (i (ix2 ρ l)).toNat % 32 < 32 := Nat.mod_lt _ (by decide)
      rw [lane_byte _ _ r l p (ρ.val % 4) hp hq ((i (ix2 ρ l)).toNat % 32) (by rw [hb])
        ⟨(i (ix2 ρ l)).toNat % 32 / 4, by omega⟩ rfl, if_pos h, if_pos h]
      exact byte_of_bytes t _ _ l _ (by omega) _ (by show (i (ix2 ρ l)).toNat % 32 = 4 * ((i (ix2 ρ l)).toNat % 32 / 4) + _; omega)
    · have hk : (byte (bitcast S8x128 32 i bitcasts_S32x128_w8_S8x128_w32 (ix2 r l)) p).toNat % 32 < 32 := Nat.mod_lt _ (by decide)
      rw [lane_byte _ _ r l p (ρ.val % 4) hp hq _ rfl ⟨_ / 4, by omega⟩ rfl, if_neg h, if_neg h]
  show byte (((lane _ _ (BitVec.ofNat 32 (8 * 0)) (ix2 r l) ||| lane _ _ (BitVec.ofNat 32 (8 * 1)) (ix2 r l))
    ||| lane _ _ (BitVec.ofNat 32 (8 * 2)) (ix2 r l)) ||| lane _ _ (BitVec.ofNat 32 (8 * 3)) (ix2 r l)) (ρ.val % 4) = _
  rw [byte_or, byte_or, byte_or, L 0 (by decide), L 1 (by decide), L 2 (by decide), L 3 (by decide)]
  generalize t _ = z
  have : ρ.val % 4 = 0 ∨ ρ.val % 4 = 1 ∨ ρ.val % 4 = 2 ∨ ρ.val % 4 = 3 := by omega
  rcases this with h | h | h | h <;> simp [h]

end Cert.Kernel.Decode
-- ==== Proof.DecodeValue.lean ====
module

public import proofs.«01_k».proof.Proof.Bytes

@[expose] public section

set_option maxRecDepth 16384

noncomputable section

/-! What the kernel's decoding computes: row `16 t + s` of a decoded block is the rounded product of the block's scale and
the table entry named by nibble `t % 2` of packed row `2 s + t / 2`. -/

namespace Cert.Kernel.Decode
open Cert.Kernel Cert.Kernel.Gen Idealize.ShloMosaic

/-- A row gathered by bytes and read as words: byte `q` of word row `r` is the table's row that byte `q` of `w` names. -/
theorem codes_byte (t : IVec S32x128 8) (w : IVec S8x128 32) (r : Fin 8) (l : Fin 128) (q : ℕ) (hq : q < 4) (ρ : Fin 32)
    (hρ : ρ.val = (byte (w (ix2 r l)) q).toNat % 32) : byte (codes t w (ix2 r l)) q = t (ix2 ρ l) := by
  unfold codes
  rw [byte_of_bytes _ _ r l q hq ⟨4 * r.val + q, by omega⟩ rfl, take0_apply]
  refine congrArg (fun z => t (ix2 z l)) (Fin.ext ?_)
  show (bitcast S32x128 8 w _ (ix2 _ l)).toNat % 32 = ρ.val
  rw [bytes_of_words w _ _ l r (by show r.val = (4 * r.val + q) / 4; omega), hρ]
  rw [show (4 * r.val + q) % 4 = q by omega]

/-- The bits of the mask that keeps bytes 0 and 2. -/
theorem even_mask : ∀ b < 32, (16711935#32).getLsbD b = decide (b % 16 < 8) := by decide

/-- In each half word, `even a b` holds the low byte of `a`'s half below the low byte of `b`'s half. -/
theorem even_byte (a b : IVec S8x128 32) (i : S8x128.Idx) (h : ℕ) (hh : h < 2) :
    byte (even a b i) (2 * h) = byte (a i) (2 * h) ∧ byte (even a b i) (2 * h + 1) = byte (b i) (2 * h) := by
  have e : even a b i = (a i &&& 16711935#32) ||| ((b i &&& 16711935#32) <<< 8) := rfl
  rw [e]
  constructor
  · refine byte_ext fun c hc => ?_
    rw [byte_bit _ _ _ hc, byte_bit _ _ _ hc, BitVec.getLsbD_or, BitVec.getLsbD_and, even_mask _ (by omega),
      BitVec.getLsbD_shiftLeft, BitVec.getLsbD_and]
    have h1 : (8 * (2 * h) + c) % 16 < 8 := by omega
    by_cases h8 : 8 * (2 * h) + c < 8
    · simp [h1, h8]
    · rw [even_mask _ (by omega)]
      simp [h1, show ¬ (8 * (2 * h) + c - 8) % 16 < 8 by omega]
  · refine byte_ext fun c hc => ?_
    rw [byte_bit _ _ _ hc, byte_bit _ _ _ hc, BitVec.getLsbD_or, BitVec.getLsbD_and, even_mask _ (by omega),
      BitVec.getLsbD_shiftLeft, BitVec.getLsbD_and, even_mask _ (by omega)]
    rw [show 8 * (2 * h + 1) + c - 8 = 8 * (2 * h) + c by omega]
    simp [show ¬ (8 * (2 * h + 1) + c) % 16 < 8 by omega, show (8 * (2 * h) + c) % 16 < 8 by omega,
      show 8 * (2 * h + 1) + c < 32 by omega, show ¬ 8 * (2 * h + 1) + c < 8 by omega]

/-- The mask of odd rows at a row. -/
theorem oddRows_apply (ρ : Fin 32) (l : Fin 128) : oddRows (ix2 ρ l) = if ρ.val % 2 = 1 then 1#1 else 0#1 := by
  have h : ∀ ρ : Fin 32, IntOp.cmpi .eq (IntOp.andi (BitVec.ofNat 32 (0 * 32 + ρ.val)) 1#32) 1#32 = if ρ.val % 2 = 1 then 1#1 else 0#1 := by
    decide
  exact h ρ

/-- A select by a constant bit. -/
theorem select_zero (x y : BitVec 8) : Scalar.select 0#1 x y = y := rfl
theorem select_one (x y : BitVec 8) : Scalar.select 1#1 x y = x := rfl

/-- In each half word, `odd a b` holds the high byte of `a`'s half below the high byte of `b`'s half. -/
theorem odd_byte (a b : IVec S8x128 32) (r : Fin 8) (l : Fin 128) (h : ℕ) (hh : h < 2) :
    byte (odd a b (ix2 r l)) (2 * h) = byte (a (ix2 r l)) (2 * h + 1)
      ∧ byte (odd a b (ix2 r l)) (2 * h + 1) = byte (b (ix2 r l)) (2 * h + 1) := by
  unfold odd
  constructor
  · rw [byte_of_bytes _ _ r l (2 * h) (by omega) ⟨4 * r.val + 2 * h, by omega⟩ rfl]
    show Scalar.select (oddRows _) _ (bitcast S32x128 8 _ _ _) = _
    rw [oddRows_apply, if_neg (by show ¬ (4 * r.val + 2 * h) % 2 = 1; omega), select_zero]
    rw [bytes_of_words _ _ _ l r (by show r.val = (4 * r.val + 2 * h) / 4; omega)]
    rw [show (4 * r.val + 2 * h) % 4 = 2 * h by omega]
    refine byte_ext fun c hc => ?_
    rw [byte_bit _ _ _ hc, byte_bit _ _ _ hc]
    show (IntOp.shrui .vector (a (ix2 r l)) 8#32).getLsbD _ = _
    unfold IntOp.shrui
    rw [if_pos (by decide), BitVec.ushiftRight_eq', BitVec.getLsbD_ushiftRight]
    congr 1
    show 8 + _ = _
    omega
  · rw [byte_of_bytes _ _ r l (2 * h + 1) (by omega) ⟨4 * r.val + (2 * h + 1), by omega⟩ rfl]
    show Scalar.select (oddRows _) (bitcast S32x128 8 _ _ _) _ = _
    rw [oddRows_apply, if_pos (by show (4 * r.val + (2 * h + 1)) % 2 = 1; omega), select_one]
    rw [bytes_of_words _ _ _ l r (by show r.val = (4 * r.val + (2 * h + 1)) / 4; omega)]
    rw [show (4 * r.val + (2 * h + 1)) % 4 = 2 * h + 1 by omega]

/-- The word shifted right by four: the low nibble of each byte is the high nibble it had. -/
theorem shifted_nibble (x : BitVec 32) (q : ℕ) (hq : q < 4) :
    (byte (IntOp.shrui .vector x 4#32) q).toNat % 16 = (byte x q).toNat / 16 := by
  unfold IntOp.shrui byte
  rw [if_pos (by decide), BitVec.ushiftRight_eq', BitVec.extractLsb'_toNat, BitVec.extractLsb'_toNat, BitVec.toNat_ushiftRight]
  have e : (x.toNat >>> (4#32).toNat) >>> (8 * q) = (x.toNat >>> (8 * q)) / 16 := by
    rw [← Nat.shiftRight_add, Nat.add_comm, Nat.shiftRight_add]
    exact Nat.shiftRight_eq_div_pow _ 4
  rw [e]
  generalize x.toNat >>> (8 * q) = N
  show N / 16 % 256 % 16 = N % 256 / 16
  omega

variable {F : FTy → Type} [BitOps F]

/-- The pattern of scaled table entry `c` of lane `l`. -/
def entry (t0 t1 : FVec F S8x128 .f32) (a : Vec F S1x128 .f32) (c : ℕ) (l : Fin 128) : BitVec 16 :=
  BitOps.toBits (FloatOps.truncf .bf16 (by decide) (FloatOps.mulf
    (if c < 8 then t0 (ix2 (⟨c % 8, Nat.mod_lt _ (by decide)⟩ : Fin 8) l) else t1 (ix2 (⟨c % 8, Nat.mod_lt _ (by decide)⟩ : Fin 8) l))
    (a (ix2 0 l))) : F .bf16)

/-- The byte table: rows `4 r`, `4 r + 1` are the bytes of entry `r`, rows `4 r + 2`, `4 r + 3` those of entry `r + 8`. -/
theorem table_apply (t0 t1 : FVec F S8x128 .f32) (a : Vec F S1x128 .f32) (c k : ℕ) (hc : c < 16) (hk : k < 2) (l : Fin 128) (ρ : Fin 32)
    (hρ : ρ.val = 4 * (c % 8) + 2 * (c / 8) + k) : table t0 t1 a (ix2 ρ l) = (entry t0 t1 a c l).extractLsb' (8 * k) 8 := by
  have hr : c % 8 < 8 := Nat.mod_lt _ (by decide)
  unfold table
  rw [bytes_of_words _ _ ρ l ⟨c % 8, hr⟩ (by show c % 8 = _; omega)]
  have e : ∀ u : FVec F S8x128 .f32, mulf u (broadcastTo S8x128 (shapeCast S1x128 a shapeCasts_S1x128_S1x128) broadcasts_S1x128_S8x128) (ix2 ⟨c % 8, hr⟩ l)
      = FloatOps.mulf (u (ix2 ⟨c % 8, hr⟩ l)) (a (ix2 0 l)) := by
    intro u
    show FloatOps.mulf _ (broadcastTo S8x128 (shapeCast S1x128 a shapeCasts_S1x128_S1x128) broadcasts_S1x128_S8x128 (ix2 ⟨c % 8, hr⟩ l)) = _
    rw [shapeCast_self]
    rw [broadcastTo_apply a _ _ (ix2 0 l) (fun b => by match b with | ⟨0, _⟩ => rfl | ⟨1, _⟩ => rfl)]
  unfold packElementwise
  rw [e, e]
  refine byte_ext fun b hb => ?_
  rw [byte_bit _ _ _ hb, BitVec.getLsbD_extractLsb']
  have h16 : FTy.bf16.bits = 16 := rfl
  rw [BitVec.getLsbD_append]
  unfold entry
  rcases Nat.lt_or_ge c 8 with h | h
  · rw [if_pos h, show 8 * (ρ.val % 4) + b = 8 * k + b by omega]
    simp [hb, show 8 * k + b < 16 by omega, h16]
  · rw [if_neg (by omega), show 8 * (ρ.val % 4) + b = 16 + (8 * k + b) by omega]
    simp [hb, h16, show ¬ c < 8 by omega]

/-- Words read as pairs of rows: row `2 r + h` is half `h` of word row `r`. -/
theorem rows_apply (v : IVec S8x128 32) (σ : Fin 16) (l : Fin 128) (r : Fin 8) (h : ℕ) (hσ : σ.val = 2 * r.val + h) (hh : h < 2)
    (z : BitVec 16) (h0 : byte (v (ix2 r l)) (2 * h) = z.extractLsb' (8 * 0) 8)
    (h1 : byte (v (ix2 r l)) (2 * h + 1) = z.extractLsb' (8 * 1) 8) :
    rows (F := F) v (ix2 σ l) = FloatOps.ofBits .bf16 z := by
  unfold rows bitcastToFloat
  refine congrArg _ ?_
  show bitcast S16x128 16 v _ (ix2 σ l) = z
  rw [bitcast_32_16]
  have er : S16x128.row (ix2 σ l) = σ.val := rfl
  have e1 : S16x128.row (ix2 σ l) / 2 = r.val := by rw [er]; omega
  have e2 : S16x128.row (ix2 σ l) % 2 = h := by rw [er]; omega
  rw [e2]
  have ei : ∀ hp, bitcasts_S8x128_w32_S16x128_w16.srcIdx (ix2 σ l) (S16x128.row (ix2 σ l) / 2) hp = (ix2 r l : S8x128.Idx) := by
    intro hp
    funext c
    match c with
    | ⟨0, _⟩ => exact Fin.ext ((Shape.Bitcasts.srcIdx_row _ _ _ _ ⟨0, Nat.zero_lt_two⟩ rfl).trans e1)
    | ⟨1, _⟩ => exact Fin.ext (Shape.Bitcasts.srcIdx_other _ _ _ _ ⟨1, Nat.one_lt_two⟩ (by show ¬ 1 + 2 = 2; omega))
  rw [ei]
  refine BitVec.eq_of_getLsbD_eq fun b hb => ?_
  rw [BitVec.getLsbD_extractLsb']
  rcases Nat.lt_or_ge b 8 with h8 | h8
  · have := congrArg (fun y => y.getLsbD b) h0
    simp only [byte_bit _ _ _ h8, BitVec.getLsbD_extractLsb'] at this
    simp only [h8, decide_true, Bool.true_and, Nat.mul_zero, Nat.zero_add] at this
    rw [← this, show 16 * h + b = 8 * (2 * h) + b by omega]
    simp [hb]
  · have := congrArg (fun y => y.getLsbD (b - 8)) h1
    simp only [byte_bit _ _ _ (show b - 8 < 8 by omega), BitVec.getLsbD_extractLsb'] at this
    simp only [show b - 8 < 8 by omega, decide_true, Bool.true_and, show 8 * 1 + (b - 8) = b by omega] at this
    rw [← this, show 8 * (2 * h + 1) + (b - 8) = 16 * h + b by omega]
    simp [hb]

/-- The 4-bit code of a packed byte: nibble 0 is the low one, nibble 1 the high one. -/
def nibble (w : BitVec 8) (n : ℕ) : ℕ := if n = 0 then w.toNat % 16 else w.toNat / 16

section Value

variable (t0 t1 : FVec F S8x128 .f32) (klo khi : IVec S32x128 8) (wb : IVec S32x128 8) (a : Vec F S1x128 .f32)
  (hlo : ∀ (ρ : Fin 32) (l : Fin 128), (klo (ix2 ρ l)).toNat = 4 * (ρ.val % 16 % 8) + 2 * (ρ.val % 16 / 8))
  (hhi : ∀ (ρ : Fin 32) (l : Fin 128), (khi (ix2 ρ l)).toNat = 4 * (ρ.val % 16 % 8) + 2 * (ρ.val % 16 / 8) + 1)

include hlo in
/-- The low-byte table: row `ρ` is the low byte of entry `ρ % 16`. -/
theorem lo_apply (ρ : Fin 32) (l : Fin 128) :
    take0 (table t0 t1 a) klo (ix2 ρ l) = (entry t0 t1 a (ρ.val % 16) l).extractLsb' (8 * 0) 8 := by
  rw [take0_apply]
  exact table_apply t0 t1 a (ρ.val % 16) 0 (by omega) (by omega) l _ (by
    show (klo (ix2 ρ l)).toNat % 32 = _
    rw [hlo]; omega)

include hhi in
/-- The high-byte table: row `ρ` is the high byte of entry `ρ % 16`. -/
theorem hi_apply (ρ : Fin 32) (l : Fin 128) :
    take0 (table t0 t1 a) khi (ix2 ρ l) = (entry t0 t1 a (ρ.val % 16) l).extractLsb' (8 * 1) 8 := by
  rw [take0_apply]
  exact table_apply t0 t1 a (ρ.val % 16) 1 (by omega) (by omega) l _ (by
    show (khi (ix2 ρ l)).toNat % 32 = _
    rw [hhi]; omega)

/-- The packed words, shifted right by four for nibble 1. -/
def words (n : ℕ) : IVec S8x128 32 :=
  if n = 0 then bitcast S8x128 32 wb bitcasts_S32x128_w8_S8x128_w32
  else shrui (bitcast S8x128 32 wb bitcasts_S32x128_w8_S8x128_w32) (broadcast S8x128 4#32)

/-- The code byte `q` of word row `r` holds, modulo 16. -/
theorem words_byte (n : ℕ) (r : Fin 8) (l : Fin 128) (q : ℕ) (hq : q < 4) (ρ : Fin 32) (hρ : ρ.val = 4 * r.val + q) :
    (byte (words wb n (ix2 r l)) q).toNat % 16 = nibble (wb (ix2 ρ l)) n := by
  unfold words nibble
  have e := byte_of_bytes wb bitcasts_S32x128_w8_S8x128_w32 r l q hq ρ hρ
  split
  · rw [e]
  · show (byte (IntOp.shrui .vector (bitcast S8x128 32 wb _ (ix2 r l)) 4#32) q).toNat % 16 = _
    rw [shifted_nibble _ _ hq, e]

include hlo hhi in
/-- The gathered bytes are the two bytes of the entry the code names. -/
theorem codes_entry (n : ℕ) (r : Fin 8) (l : Fin 128) (q : ℕ) (hq : q < 4) (ρ : Fin 32) (hρ : ρ.val = 4 * r.val + q) :
    byte (codes (take0 (table t0 t1 a) klo) (words wb n) (ix2 r l)) q
        = (entry t0 t1 a (nibble (wb (ix2 ρ l)) n) l).extractLsb' (8 * 0) 8
      ∧ byte (codes (take0 (table t0 t1 a) khi) (words wb n) (ix2 r l)) q
        = (entry t0 t1 a (nibble (wb (ix2 ρ l)) n) l).extractLsb' (8 * 1) 8 := by
  have hn := words_byte wb n r l q hq ρ hρ
  generalize hB : (byte (words wb n (ix2 r l)) q).toNat = B at hn
  have e : B % 32 % 16 = nibble (wb (ix2 ρ l)) n := by omega
  constructor
  · rw [codes_byte _ _ r l q hq ⟨B % 32, by omega⟩ (by rw [hB]), lo_apply t0 t1 klo a hlo]
    show (entry t0 t1 a (B % 32 % 16) l).extractLsb' _ _ = _
    rw [e]
  · rw [codes_byte _ _ r l q hq ⟨B % 32, by omega⟩ (by rw [hB]), hi_apply t0 t1 khi a hhi]
    show (entry t0 t1 a (B % 32 % 16) l).extractLsb' _ _ = _
    rw [e]

include hlo hhi in
/-- Rows of even packed rows: row `s` of the 16 is nibble `n` of packed row `2 s`. -/
theorem even_rows (n : ℕ) (σ : Fin 16) (l : Fin 128) (ρ : Fin 32) (hρ : ρ.val = 2 * σ.val) :
    rows (F := F) (even (codes (take0 (table t0 t1 a) klo) (words wb n)) (codes (take0 (table t0 t1 a) khi) (words wb n))) (ix2 σ l)
      = FloatOps.ofBits .bf16 (entry t0 t1 a (nibble (wb (ix2 ρ l)) n) l) := by
  have hσ := σ.isLt
  obtain ⟨r, hr⟩ : ∃ r : Fin 8, r.val = σ.val / 2 := ⟨⟨σ.val / 2, by omega⟩, rfl⟩
  have hh : σ.val % 2 < 2 := Nat.mod_lt _ (by decide)
  obtain ⟨c0, c1⟩ := codes_entry t0 t1 klo khi wb a hlo hhi n r l (2 * (σ.val % 2)) (by omega) ρ (by omega)
  obtain ⟨e0, e1⟩ := even_byte (codes (take0 (table t0 t1 a) klo) (words wb n)) (codes (take0 (table t0 t1 a) khi) (words wb n))
    (ix2 r l) (σ.val % 2) hh
  exact rows_apply _ σ l r (σ.val % 2) (by omega) hh _ (e0.trans c0) (e1.trans c1)

include hlo hhi in
/-- Rows of odd packed rows: row `s` of the 16 is nibble `n` of packed row `2 s + 1`. -/
theorem odd_rows (n : ℕ) (σ : Fin 16) (l : Fin 128) (ρ : Fin 32) (hρ : ρ.val = 2 * σ.val + 1) :
    rows (F := F) (odd (codes (take0 (table t0 t1 a) klo) (words wb n)) (codes (take0 (table t0 t1 a) khi) (words wb n))) (ix2 σ l)
      = FloatOps.ofBits .bf16 (entry t0 t1 a (nibble (wb (ix2 ρ l)) n) l) := by
  have hσ := σ.isLt
  obtain ⟨r, hr⟩ : ∃ r : Fin 8, r.val = σ.val / 2 := ⟨⟨σ.val / 2, by omega⟩, rfl⟩
  have hh : σ.val % 2 < 2 := Nat.mod_lt _ (by decide)
  obtain ⟨c0, c1⟩ := codes_entry t0 t1 klo khi wb a hlo hhi n r l (2 * (σ.val % 2) + 1) (by omega) ρ (by omega)
  obtain ⟨e0, e1⟩ := odd_byte (codes (take0 (table t0 t1 a) klo) (words wb n)) (codes (take0 (table t0 t1 a) khi) (words wb n))
    r l (σ.val % 2) hh
  exact rows_apply _ σ l r (σ.val % 2) (by omega) hh _ (e0.trans c0) (e1.trans c1)

include hlo hhi in
/-- THE DECODED BLOCK: row `16 t + s` is the entry named by nibble `t % 2` of packed row `2 s + t / 2`. -/
theorem decode_apply (k : Fin 64) (l : Fin 128) (ρ : Fin 32) (hρ : ρ.val = 2 * (k.val % 16) + k.val / 16 / 2) :
    decode t0 t1 klo khi wb a (ix2 k l)
      = FloatOps.ofBits .bf16 (entry t0 t1 a (nibble (wb (ix2 ρ l)) (k.val / 16 % 2)) l) := by
  have hk := k.isLt
  let f : Fin 4 → S16x128.Idx → F .bf16 := fun t =>
    rows ((if t.val / 2 = 0 then even else odd) (codes (take0 (table t0 t1 a) klo) (words wb (t.val % 2)))
      (codes (take0 (table t0 t1 a) khi) (words wb (t.val % 2))))
  have e : decode t0 t1 klo khi wb a (ix2 k l) = f ⟨k.val / 16, by omega⟩ (ix2 (⟨k.val % 16, Nat.mod_lt _ (by decide)⟩ : Fin 16) l) :=
    concatenate_ofFn_apply (s₁ := S16x128) (t := S64x128) 0 f concatenates_S16x128_S16x128_S16x128_S16x128_S64x128_d0 rfl 16 rfl (ix2 k l) _ rfl _ rfl
      (fun b hb => by match b with | ⟨0, _⟩ => exact absurd rfl hb | ⟨1, _⟩ => rfl)
  rw [e]
  show rows ((if k.val / 16 / 2 = 0 then even else odd) _ _) _ = _
  split
  · exact even_rows t0 t1 klo khi wb a hlo hhi _ _ l ρ (by show ρ.val = 2 * (k.val % 16); omega)
  · exact odd_rows t0 t1 klo khi wb a hlo hhi _ _ l ρ (by show ρ.val = 2 * (k.val % 16) + 1; omega)

end Value

end Cert.Kernel.Decode
-- ==== Proof.KernelTile.lean ====
module

public import proofs.«01_k».proof.Proof.KernelTrip
public import proofs.«01_k».proof.Proof.DecodeValue

@[expose] public section

set_option maxRecDepth 16384

noncomputable section

/-! What the kernel leaves in its result array: the chunked product of the activations with the decoded weights. -/

namespace Cert.Kernel.Tile
open Cert.Kernel Cert.Kernel.Gen Cert.Kernel.Decode Idealize.ShloMosaic Idealize.ShloMosaic.TcCoe Idealize.SL.Sem
open Idealize.ShloMosaic.Pipeline (Dat)
open Cert.Chunks (step xChunk acc acc_congr read_unit pick product block wTile)

variable {F : FTy → Type} [BitOps F]

/-- The pattern of one decoded weight: a table value times a scale, rounded to bf16. -/
def word (v s : F .f32) : BitVec 16 := BitOps.toBits (FloatOps.truncf .bf16 (by decide) (FloatOps.mulf v s) : F .bf16)

/-- The decoded weight of row `r` and column `j`: its code is nibble `r / 16 % 2` of packed row
`32 (r / 64) + 2 (r % 16) + r % 64 / 32`, its scale that of row block `r / 64`. -/
def weights {n : ℕ} (T : Vec F S16x128 .f32) (wq : (⟨2, ![8192, n]⟩ : Shape).Idx → BitVec 8) (ab : (⟨2, ![256, n]⟩ : Shape).Idx → F .f32)
    (r : ℕ) (j : Fin n) : F .bf16 :=
  FloatOps.ofBits .bf16 (word
    (T (ix2 (⟨nibble (wq (ix2 (⟨(32 * (r / 64) + 2 * (r % 16) + r % 64 / 32) % 8192, Nat.mod_lt _ (by decide)⟩ : Fin 8192) j)) (r / 16 % 2) % 16,
      Nat.mod_lt _ (by decide)⟩ : Fin 16) (⟨j.val % 128, Nat.mod_lt _ (by decide)⟩ : Fin 128)))
    (ab (ix2 (⟨r / 64 % 256, Nat.mod_lt _ (by decide)⟩ : Fin 256) j)))

/-- A pair at a column: the left block below column 128, the right one from there on. -/
theorem pair_apply (u v : FVec F S64x128 .bf16) (a : Fin 64) (j : Fin 256) :
    pair u v (ix2 a j) = (if j.val < 128 then u else v) (ix2 a (⟨j.val % 128, Nat.mod_lt _ (by decide)⟩ : Fin 128)) := by
  unfold pair
  have hj := j.isLt
  split
  · exact concatenate_pair_apply_left (s₁ := S64x128) (s₂ := S64x128) (t := S64x256) 1 u v _ (ix2 a j) rfl _ (fun b => by
      match b with
      | ⟨0, _⟩ => rfl
      | ⟨1, _⟩ => show j.val % 128 = j.val; omega)
  · exact concatenate_pair_apply_right (s₁ := S64x128) (s₂ := S64x128) (t := S64x256) 1 u v _ (ix2 a j) rfl rfl _ (fun b hb => by
      match b with
      | ⟨0, _⟩ => rfl
      | ⟨1, _⟩ => exact absurd rfl hb) (by show j.val % 128 + 128 = j.val; omega)

/-- A stack at a row. -/
theorem stack_apply (P : Fin 4 → FVec F S64x256 .bf16) (a j : Fin 256) :
    stack (P 0) (P 1) (P 2) (P 3) (ix2 a j)
      = P ⟨a.val / 64, by have := a.isLt; omega⟩ (ix2 (⟨a.val % 64, Nat.mod_lt _ (by decide)⟩ : Fin 64) j) :=
  concatenate_ofFn_apply (s₁ := S64x256) (t := S256x256) 0 P concatenates_S64x256_S64x256_S64x256_S64x256_S256x256_d0 rfl 64 rfl (ix2 a j) _ rfl _ rfl
    (fun b hb => by match b with | ⟨0, _⟩ => exact absurd rfl hb | ⟨1, _⟩ => rfl)

/-- The packed row, scale row and nibble of row `256 k + 64 u + ρ`. -/
theorem row_facts (k u ρ : ℕ) (hk : k < 64) (hu : u < 4) (hρ : ρ < 64) :
    (32 * ((256 * k + (64 * u + ρ)) / 64) + 2 * ((256 * k + (64 * u + ρ)) % 16) + (256 * k + (64 * u + ρ)) % 64 / 32) % 8192
        = 128 * k + 32 * u + (2 * (ρ % 16) + ρ / 16 / 2)
      ∧ (256 * k + (64 * u + ρ)) / 64 % 256 = 4 * k + u
      ∧ (256 * k + (64 * u + ρ)) / 16 % 2 = ρ / 16 % 2 := by
  have e1 : (256 * k + (64 * u + ρ)) / 64 = 4 * k + u := by omega
  have e2 : (256 * k + (64 * u + ρ)) / 16 = 16 * k + 4 * u + ρ / 16 := by omega
  have e3 : (256 * k + (64 * u + ρ)) % 16 = ρ % 16 := by omega
  have e4 : (256 * k + (64 * u + ρ)) % 64 = ρ := by omega
  rw [e1, e2, e3, e4]
  clear e1 e2 e3 e4
  have e5 : ρ / 16 / 2 = ρ / 32 := by omega
  rw [e5]
  refine ⟨?_, ?_, ?_⟩ <;> omega

section Loops

variable (c : Dev nD) (i : grid0.Coords)
  (arg1 : Memref sig .tc .vmem S48x16384 .bf16) (harg1 : arg1.IsWhole)
  (arg2 : Memref sig .tc .vmem S16x128 .f32) (harg2 : arg2.IsWhole)
  (arg3 : Memref sig .tc .vmem S32x128 .i8) (harg3 : arg3.IsWhole)
  (arg4 : Memref sig .tc .vmem S32x128 .i8) (harg4 : arg4.IsWhole)
  (arg5 : Memref sig .tc .vmem S8192x512 .i8) (harg5 : arg5.IsWhole)
  (arg6 : Memref sig .tc .vmem S256x512 .f32) (harg6 : arg6.IsWhole)
  (arg7 : Memref sig .tc .vmem S48x512 .bf16) (harg7 : arg7.IsWhole)
  (v0 v2 : Vec F S8x128 .f32) (v4 v6 : Vec F S32x128 .i8)
  (x0 : Vec F S48x16384 .bf16) (x1 : Vec F S16x128 .f32) (x4 : Vec F S8192x512 .i8) (x5 : Vec F S256x512 .f32)
  (h0 : ∀ (r : Fin 8) (l : Fin 128), v0 (ix2 r l) = x1 (ix2 (⟨r.val, by have := r.isLt; omega⟩ : Fin 16) l))
  (h2 : ∀ (r : Fin 8) (l : Fin 128), v2 (ix2 r l) = x1 (ix2 (⟨r.val + 8, by have := r.isLt; omega⟩ : Fin 16) l))
  (h4 : ∀ (ρ : Fin 32) (l : Fin 128), (v4 (ix2 ρ l) : BitVec 8).toNat = 4 * (ρ.val % 16 % 8) + 2 * (ρ.val % 16 / 8))
  (h6 : ∀ (ρ : Fin 32) (l : Fin 128), (v6 (ix2 ρ l) : BitVec 8).toNat = 4 * (ρ.val % 16 % 8) + 2 * (ρ.val % 16 / 8) + 1)

/-- A nibble is below 16. -/
theorem nibble_lt (w : BitVec 8) (n : ℕ) : nibble w n < 16 := by
  unfold nibble
  have := w.isLt
  split <;> omega

include h0 h2 h4 h6 in
/-- A decoded block is the decoded weights of its rows and columns. -/
theorem dec_apply (k : ℕ) (hk : k < 64) (u : Fin 4) (o : ℕ) (off5 : Fin 2 → ℕ) (h5) (off6 : Fin 2 → ℕ) (hb)
    (e5 : off5 = ![128 * k + 32 * u.val, o]) (e6 : off6 = ![4 * k + u.val, o]) (ho : o % 128 = 0)
    (ρ : Fin 64) (l : Fin 128) (j : Fin 512) (hj : j.val = o + l.val) :
    dec arg5 arg6 v0 v2 v4 v6 (harg5.unread x4) (harg6.unread x5) off5 h5 off6 hb (ix2 ρ l)
      = weights x1 x4 x5 (256 * k + (64 * u.val + ρ.val)) j := by
  have hu := u.isLt
  have hρ := ρ.isLt
  have hl := l.isLt
  unfold dec
  rw [shapeCast_self, shapeCast_self, shapeCast_self, shapeCast_self]
  rw [decode_apply v0 v2 v4 v6 _ _ h4 h6 ρ l ⟨2 * (ρ.val % 16) + ρ.val / 16 / 2, by omega⟩ rfl]
  rw [read_unit harg5 x4 e5 _ _ ⟨128 * k + 32 * u.val + (2 * (ρ.val % 16) + ρ.val / 16 / 2), by omega⟩ j rfl hj]
  unfold weights entry word
  rw [read_unit harg6 x5 e6 _ _ ⟨4 * k + u.val, by omega⟩ j rfl hj]
  obtain ⟨er, eb, en⟩ := row_facts k u.val ρ.val hk hu hρ
  have el : j.val % 128 = l.val := by omega
  simp only [er, eb, en, el]
  have key : ∀ C : ℕ, C < 16 → (if C < 8 then v0 (ix2 (⟨C % 8, Nat.mod_lt _ (by decide)⟩ : Fin 8) l) else v2 (ix2 (⟨C % 8, Nat.mod_lt _ (by decide)⟩ : Fin 8) l))
      = x1 (ix2 (⟨C % 16, Nat.mod_lt _ (by decide)⟩ : Fin 16) l) := by
    intro C hC
    split
    · rw [h0]
      exact congrArg (fun z => x1 (ix2 z l)) (Fin.ext (by show C % 8 = C % 16; omega))
    · rw [h2]
      exact congrArg (fun z => x1 (ix2 z l)) (Fin.ext (by show C % 8 + 8 = C % 16; omega))
  rw [key _ (nibble_lt _ _)]

/-- Tile `k` of half `h` of the decoded weights of one 512-column block. -/
def tile (h k : ℕ) : Vec F S256x256 .bf16 :=
  fun p => weights x1 x4 x5 (256 * k + (p 0).val) (⟨(256 * h + (p 1).val) % 512, Nat.mod_lt _ (by decide)⟩ : Fin 512)

include h0 h2 h4 h6 in
/-- Four stacked pairs of decoded blocks are a tile of the decoded weights. -/
theorem stacked (k : ℕ) (hk : k < 64) (h : ℕ) (hh : h < 2)
    (offA offB offC offD : Fin 4 → Fin 2 → ℕ)
    (hA : ∀ u a, offA u a + S32x128.size a ≤ S8192x512.size a) (hB : ∀ u a, offB u a + S1x128.size a ≤ S256x512.size a)
    (hC : ∀ u a, offC u a + S32x128.size a ≤ S8192x512.size a) (hD : ∀ u a, offD u a + S1x128.size a ≤ S256x512.size a)
    (eA : ∀ u : Fin 4, offA u = ![128 * k + 32 * u.val, 256 * h]) (eB : ∀ u : Fin 4, offB u = ![4 * k + u.val, 256 * h])
    (eC : ∀ u : Fin 4, offC u = ![128 * k + 32 * u.val, 256 * h + 128]) (eD : ∀ u : Fin 4, offD u = ![4 * k + u.val, 256 * h + 128])
    (P : Fin 4 → FVec F S64x256 .bf16)
    (hP : P = fun u => pair (dec arg5 arg6 v0 v2 v4 v6 (harg5.unread x4) (harg6.unread x5) (offA u) (hA u) (offB u) (hB u))
      (dec arg5 arg6 v0 v2 v4 v6 (harg5.unread x4) (harg6.unread x5) (offC u) (hC u) (offD u) (hD u))) :
    stack (P 0) (P 1) (P 2) (P 3) = tile x1 x4 x5 h k := by
  funext p
  obtain ⟨a, j, rfl⟩ : ∃ a j : Fin 256, p = ix2 a j := ⟨p 0, p 1, by funext b; match b with | ⟨0, _⟩ => rfl | ⟨1, _⟩ => rfl⟩
  have ha := a.isLt
  have hj := j.isLt
  rw [stack_apply, hP]
  dsimp only
  rw [pair_apply]
  have er : 256 * k + (64 * (a.val / 64) + a.val % 64) = 256 * k + a.val := by omega
  unfold tile
  split
  · rw [dec_apply arg5 harg5 arg6 harg6 v0 v2 v4 v6 x1 x4 x5 h0 h2 h4 h6 k hk _ (256 * h) _ _ _ _ (eA _) (eB _) (by omega) _ _
      ⟨(256 * h + j.val) % 512, Nat.mod_lt _ (by decide)⟩ (by show (256 * h + j.val) % 512 = 256 * h + j.val % 128; omega)]
    exact congrArg (fun z => weights x1 x4 x5 z _) er
  · rw [dec_apply arg5 harg5 arg6 harg6 v0 v2 v4 v6 x1 x4 x5 h0 h2 h4 h6 k hk _ (256 * h + 128) _ _ _ _ (eC _) (eD _) (by omega) _ _
      ⟨(256 * h + j.val) % 512, Nat.mod_lt _ (by decide)⟩ (by show (256 * h + j.val) % 512 = 256 * h + 128 + j.val % 128; omega)]
    exact congrArg (fun z => weights x1 x4 x5 z _) er

include h0 h2 h4 h6 in
/-- One trip of the first loop is one accumulation step on the left half. -/
theorem trip1 (k : Fin k0_t1_loop.trips) (a : FVec F S48x256 .f32) :
    tripR_k0_t1 Variants.none c none i arg1 harg1 arg2 harg2 arg3 harg3 arg4 harg4 arg5 harg5 arg6 harg6 arg7 harg7
      v0 v2 v4 v6 (harg1.unread x0) (harg5.unread x4) (harg6.unread x5) k a
      = step a (xChunk x0 k) (tile x1 x4 x5 0 k) := by
  have hk : k.val < 64 := lt_of_lt_of_le k.isLt k0_t1_abs.2.1
  rw [trip1_eq]
  refine congr (congrArg (step a) ?_) ?_
  · funext p
    idx_bounds p
    refine (congrFun (shapeCast_self _ _) p).trans (read_unit harg1 x0 (k0_off5_eq k) _ p _ _ ?_ ?_) <;> dsimp only <;> omega
  · exact stacked arg5 harg5 arg6 harg6 v0 v2 v4 v6 x1 x4 x5 h0 h2 h4 h6 k hk 0 (by decide)
      (fun u => k0_off1 k (BitVec.ofNat 32 u.val)) (fun u => k0_off2 k (BitVec.ofNat 32 u.val))
      (fun u => k0_off3 k (BitVec.ofNat 32 u.val)) (fun u => k0_off4 k (BitVec.ofNat 32 u.val))
      (k0_off1_inb k) (k0_off2_inb k) (k0_off3_inb k) (k0_off4_inb k)
      (k0_off1_eq k) (k0_off2_eq k) (k0_off3_eq k) (k0_off4_eq k) _ rfl

include h0 h2 h4 h6 in
/-- One trip of the second loop is one accumulation step on the right half. -/
theorem trip2 (k : Fin k0_t2_loop.trips) (a : FVec F S48x256 .f32) :
    tripR_k0_t2 Variants.none c none i arg1 harg1 arg2 harg2 arg3 harg3 arg4 harg4 arg5 harg5 arg6 harg6 arg7 harg7
      v0 v2 v4 v6 (harg1.unread x0) (harg5.unread x4) (harg6.unread x5) k a
      = step a (xChunk x0 k) (tile x1 x4 x5 1 k) := by
  have hk : k.val < 64 := lt_of_lt_of_le k.isLt k0_t2_abs.2.1
  rw [trip2_eq]
  refine congr (congrArg (step a) ?_) ?_
  · funext p
    idx_bounds p
    refine (congrFun (shapeCast_self _ _) p).trans (read_unit harg1 x0 (k0_off10_eq k) _ p _ _ ?_ ?_) <;> dsimp only <;> omega
  · exact stacked arg5 harg5 arg6 harg6 v0 v2 v4 v6 x1 x4 x5 h0 h2 h4 h6 k hk 1 (by decide)
      (fun u => k0_off6 k (BitVec.ofNat 32 u.val)) (fun u => k0_off7 k (BitVec.ofNat 32 u.val))
      (fun u => k0_off8 k (BitVec.ofNat 32 u.val)) (fun u => k0_off9 k (BitVec.ofNat 32 u.val))
      (k0_off6_inb k) (k0_off7_inb k) (k0_off8_inb k) (k0_off9_inb k)
      (k0_off6_eq k) (k0_off7_eq k) (k0_off8_eq k) (k0_off9_eq k) _ rfl

/-- Both loops run 64 trips. -/
theorem trips1 : k0_t1_loop.trips = 64 := by decide +kernel
theorem trips2 : k0_t2_loop.trips = 64 := by decide +kernel

include h0 h2 h4 h6 in
/-- Before trip `n` the first loop carries the accumulator after `n` steps on the left half. -/
theorem state1 (n : ℕ) (hn : n ≤ 64) :
    st_k0_t1 Variants.none c none i arg1 harg1 arg2 harg2 arg3 harg3 arg4 harg4 arg5 harg5 arg6 harg6 arg7 harg7
      v0 v2 v4 v6 (harg1.unread x0) (harg5.unread x4) (harg6.unread x5) k0_pay6 n
      = acc (xChunk x0) (tile x1 x4 x5 0) n := by
  induction n with
  | zero => rfl
  | succ n ih =>
    have := st_k0_t1_succ Variants.none c none i arg1 harg1 arg2 harg2 arg3 harg3 arg4 harg4 arg5 harg5 arg6 harg6 arg7 harg7
      v0 v2 v4 v6 (harg1.unread x0) (harg5.unread x4) (harg6.unread x5) k0_pay6 ⟨n, by rw [trips1]; omega⟩
    rw [this, trip1 (h0 := h0) (h2 := h2) (h4 := h4) (h6 := h6), ih (by omega)]
    rfl

include h0 h2 h4 h6 in
/-- Before trip `n` the second loop carries the accumulator after `n` steps on the right half. -/
theorem state2 (n : ℕ) (hn : n ≤ 64) :
    st_k0_t2 Variants.none c none i arg1 harg1 arg2 harg2 arg3 harg3 arg4 harg4 arg5 harg5 arg6 harg6 arg7 harg7
      v0 v2 v4 v6 (harg1.unread x0) (harg5.unread x4) (harg6.unread x5) k0_pay9 n
      = acc (xChunk x0) (tile x1 x4 x5 1) n := by
  induction n with
  | zero => rfl
  | succ n ih =>
    have := st_k0_t2_succ Variants.none c none i arg1 harg1 arg2 harg2 arg3 harg3 arg4 harg4 arg5 harg5 arg6 harg6 arg7 harg7
      v0 v2 v4 v6 (harg1.unread x0) (harg5.unread x4) (harg6.unread x5) k0_pay9 ⟨n, by rw [trips2]; omega⟩
    rw [this, trip2 (h0 := h0) (h2 := h2) (h4 := h4) (h6 := h6), ih (by omega)]
    rfl

variable (x2 x3 : Vec F S32x128 .i8)
  (hx2 : ∀ (ρ : Fin 32) (l : Fin 128), (x2 (ix2 ρ l) : BitVec 8).toNat = 4 * (ρ.val % 16 % 8) + 2 * (ρ.val % 16 / 8))
  (hx3 : ∀ (ρ : Fin 32) (l : Fin 128), (x3 (ix2 ρ l) : BitVec 8).toNat = 4 * (ρ.val % 16 % 8) + 2 * (ρ.val % 16 / 8) + 1)

include hx2 hx3 in
/-- The block one grid point leaves: each half is the rounded accumulator after 64 steps on that half. -/
theorem point (y : S48x512.Idx) :
    out0_A_6 c i arg1 harg1 arg2 harg2 arg3 harg3 arg4 harg4 arg5 harg5 arg6 harg6 arg7 harg7 x0 x1 x2 x3 x4 x5 y
      = truncf .bf16 (acc (xChunk x0) (tile x1 x4 x5 ((y 1).val / 256)) 64) bitsLt_bf16_f32
          (ix2 (y 0) (⟨(y 1).val % 256, Nat.mod_lt _ (by decide)⟩ : Fin 256)) := by
  unfold out0_A_6
  refine View.read_writes_apply_of_pieces _ _
    (fun y : S48x512.Idx => truncf .bf16 (acc (xChunk x0) (tile x1 x4 x5 ((y 1).val / 256)) 64) bitsLt_bf16_f32
          (ix2 (y 0) (⟨(y 1).val % 256, Nat.mod_lt _ (by decide)⟩ : Fin 256)))
    _ ?_ y (cover0_A_6 c i arg1 harg1 arg2 harg2 arg3 harg3 arg4 harg4 arg5 harg5 arg6 harg6 arg7 harg7 x0 x1 x2 x3 x4 x5 y)
  have ht : Scf.trips 0#32 (Scalar.addi 0#32 64#32) 1#32 = 64 := by decide +kernel
  have r0 : ∀ (r : Fin 8) (l : Fin 128), View.readAt (Elt F) arg2.view (Rect.unit (s := S16x128) ![0, 0] ![8, 128] inb_S16x128_S8x128_0_0).toLoadRect
      (harg2.unread x1) (ix2 r l) = x1 (ix2 (⟨r.val, by have := r.isLt; omega⟩ : Fin 16) l) := fun r l =>
    read_unit harg2 x1 rfl _ _ _ _ (Nat.zero_add _).symm (Nat.zero_add _).symm
  have r2 : ∀ (r : Fin 8) (l : Fin 128), View.readAt (Elt F) arg2.view (Rect.unit (s := S16x128) ![8, 0] ![8, 128] inb_S16x128_S8x128_8_0).toLoadRect
      (harg2.unread x1) (ix2 r l) = x1 (ix2 (⟨r.val + 8, by have := r.isLt; omega⟩ : Fin 16) l) := fun r l =>
    read_unit harg2 x1 rfl _ _ _ _ (Nat.add_comm _ _) (Nat.zero_add _).symm
  have r4 : ∀ (ρ : Fin 32) (l : Fin 128), (View.readAt (Elt F) arg3.view (Rect.unit (s := S32x128) ![0, 0] ![32, 128] inb_S32x128_S32x128_0_0).toLoadRect
      (harg3.unread x2) (ix2 ρ l) : BitVec 8).toNat = 4 * (ρ.val % 16 % 8) + 2 * (ρ.val % 16 / 8) := fun ρ l =>
    (congrArg BitVec.toNat (read_unit (F := F) harg3 x2 rfl _ _ ρ l (Nat.zero_add _).symm (Nat.zero_add _).symm)).trans (hx2 ρ l)
  have r6 : ∀ (ρ : Fin 32) (l : Fin 128), (View.readAt (Elt F) arg4.view (Rect.unit (s := S32x128) ![0, 0] ![32, 128] inb_S32x128_S32x128_0_0).toLoadRect
      (harg4.unread x3) (ix2 ρ l) : BitVec 8).toNat = 4 * (ρ.val % 16 % 8) + 2 * (ρ.val % 16 / 8) + 1 := fun ρ l =>
    (congrArg BitVec.toNat (read_unit (F := F) harg4 x3 rfl _ _ ρ l (Nat.zero_add _).symm (Nat.zero_add _).symm)).trans (hx3 ρ l)
  unfold kernelRun0_A
  dsimp only
  intro p hp x
  rw [List.mem_cons, List.mem_singleton] at hp
  rcases hp with rfl | rfl
  · dsimp only
    rw [ht]
    refine (congrFun (congrArg k0_pay11 (state2 _ _ _ _ _ _ _ _ _ _ _ _ _ _ _ _ _ _ _ _ _ _ _ _ r0 r2 r4 r6 64 le_rfl)) x).trans ?_
    refine pick (fun h => truncf .bf16 (acc (xChunk x0) (tile x1 x4 x5 h) 64) bitsLt_bf16_f32) 1 x _ ?_ ?_
    · exact (Rect.idx_unit_val (s := S48x512) _ _ inb_S48x512_S48x256_0_256 x 0).trans (Nat.zero_add _)
    · exact Rect.idx_unit_val (s := S48x512) _ _ inb_S48x512_S48x256_0_256 x 1
  · dsimp only
    rw [ht]
    refine (congrFun (congrArg k0_pay8 (state1 _ _ _ _ _ _ _ _ _ _ _ _ _ _ _ _ _ _ _ _ _ _ _ _ r0 r2 r4 r6 64 le_rfl)) x).trans ?_
    refine pick (fun h => truncf .bf16 (acc (xChunk x0) (tile x1 x4 x5 h) 64) bitsLt_bf16_f32) 0 x _ ?_ ?_
    · exact (Rect.idx_unit_val (s := S48x512) _ _ inb_S48x512_S48x256_0_0 x 0).trans (Nat.zero_add _)
    · exact (Rect.idx_unit_val (s := S48x512) _ _ inb_S48x512_S48x256_0_0 x 1)

end Loops
end Cert.Kernel.Tile
-- ==== Proof.KernelFinal.lean ====
module

public import proofs.«01_k».proof.Proof.KernelTile

@[expose] public section

set_option maxRecDepth 16384

noncomputable section

/-! The kernel's result array over the arrays its windows read. -/

namespace Cert.Kernel.Tile
open Cert.Kernel Cert.Kernel.Gen Cert.Kernel.Decode Idealize.ShloMosaic Idealize.ShloMosaic.TcCoe Idealize.SL.Sem
open Idealize.ShloMosaic.Pipeline (Dat)
open Cert.Chunks (step xChunk acc acc_congr read_unit pick product block wTile)

variable {F : FTy → Type} [BitOps F] (m : (ℓ : Loc nD τ sig) → Buf (Elt F) ℓ)

/-- The windows' block indices at each grid point. -/
theorem idx : ∀ t : Fin cfg0.N, win0_0.index t = ![0, 0] ∧ win0_1.index t = ![0, 0] ∧ win0_2.index t = ![0, 0] ∧ win0_3.index t = ![0, 0]
    ∧ win0_4.index t = ![0, t.val] ∧ win0_5.index t = ![0, t.val] ∧ win0_6.index t = ![0, t.val] :=
  (by decide +kernel : ∀ t : Fin grid0.N, _)

/-- The activations', the table's and the index rows' one block is the whole array. -/
theorem iblk0 (c : Dev nD) (t : Fin cfg0.N) : iblk m c 0 t = V m c main_v2 := by
  unfold iblk
  change ((cfg0.win 0).blk t).view.read (Elt F) (V m c main_v2) = V m c main_v2
  generalize V m c main_v2 = X
  blk_ext! [idx t]
theorem iblk1 (c : Dev nD) (t : Fin cfg0.N) : iblk m c 1 t = V m c main_v4 := by
  unfold iblk
  change ((cfg0.win 1).blk t).view.read (Elt F) (V m c main_v4) = V m c main_v4
  generalize V m c main_v4 = X
  blk_ext! [idx t]
theorem iblk2 (c : Dev nD) (t : Fin cfg0.N) : iblk m c 2 t = V m c main_v16 := by
  unfold iblk
  change ((cfg0.win 2).blk t).view.read (Elt F) (V m c main_v16) = V m c main_v16
  generalize V m c main_v16 = X
  blk_ext! [idx t]
theorem iblk3 (c : Dev nD) (t : Fin cfg0.N) : iblk m c 3 t = V m c main_v21 := by
  unfold iblk
  change ((cfg0.win 3).blk t).view.read (Elt F) (V m c main_v21) = V m c main_v21
  generalize V m c main_v21 = X
  blk_ext! [idx t]

/-- The packed codes' block at point `t` is columns `512 t …` of the array. -/
theorem iblk4 (c : Dev nD) (t : Fin cfg0.N) (a : Fin 8192) (j : Fin 512) (z : Fin 8192) (hz : z.val = 512 * t.val + j.val) :
    iblk m c 4 t (ix2 a j) = V m c main_arg1 (ix2 a z) := by
  unfold iblk
  change V m c main_arg1 (((cfg0.win 4).blk t).view.emb (ix2 a j)) = V m c main_arg1 _
  generalize V m c main_arg1 = X
  refine congrArg X (funext fun b => Fin.ext ?_)
  have h0 : ∀ z : S8192x512.Idx, (((win0_4.blk t).view.emb z) 0 : ℕ) = (z 0).val := fun z => by blk_simp [idx t]
  have h1 : ∀ z : S8192x512.Idx, (((win0_4.blk t).view.emb z) 1 : ℕ) = t.val * 512 + (z 1).val := fun z => by blk_simp [idx t]
  match b with
  | ⟨0, _⟩ => exact h0 _
  | ⟨1, _⟩ => exact (h1 _).trans (by show t.val * 512 + j.val = z.val; omega)

/-- The scales' block at point `t` is columns `512 t …` of the array. -/
theorem iblk5 (c : Dev nD) (t : Fin cfg0.N) (a : Fin 256) (j : Fin 512) (z : Fin 8192) (hz : z.val = 512 * t.val + j.val) :
    iblk m c 5 t (ix2 a j) = V m c main_arg2 (ix2 a z) := by
  unfold iblk
  change V m c main_arg2 (((cfg0.win 5).blk t).view.emb (ix2 a j)) = V m c main_arg2 _
  generalize V m c main_arg2 = X
  refine congrArg X (funext fun b => Fin.ext ?_)
  have h0 : ∀ z : S256x512.Idx, (((win0_5.blk t).view.emb z) 0 : ℕ) = (z 0).val := fun z => by blk_simp [idx t]
  have h1 : ∀ z : S256x512.Idx, (((win0_5.blk t).view.emb z) 1 : ℕ) = t.val * 512 + (z 1).val := fun z => by blk_simp [idx t]
  match b with
  | ⟨0, _⟩ => exact h0 _
  | ⟨1, _⟩ => exact (h1 _).trans (by show t.val * 512 + j.val = z.val; omega)

/-- The decoded weights as one array. -/
def decoded (T : Vec F S16x128 .f32) (wq : Vec F S8192x8192 .i8) (ab : Vec F S256x8192 .f32) : (⟨2, ![16384, 8192]⟩ : Shape).Idx → F .bf16 :=
  fun p => weights (n := 8192) T wq ab (p 0).val (p 1)

/-- Decoded weights depend only on the column's lane, codes and scales. -/
theorem weights_congr {n n' : ℕ} (T : Vec F S16x128 .f32) (wq : (⟨2, ![8192, n]⟩ : Shape).Idx → BitVec 8) (ab : (⟨2, ![256, n]⟩ : Shape).Idx → F .f32)
    (wq' : (⟨2, ![8192, n']⟩ : Shape).Idx → BitVec 8) (ab' : (⟨2, ![256, n']⟩ : Shape).Idx → F .f32) (r r' : ℕ) (j : Fin n) (j' : Fin n')
    (hr : r = r') (hj : j.val % 128 = j'.val % 128) (hw : ∀ a : Fin 8192, wq (ix2 a j) = wq' (ix2 a j')) (ha : ∀ a : Fin 256, ab (ix2 a j) = ab' (ix2 a j')) :
    weights T wq ab r j = weights T wq' ab' r' j' := by
  subst hr
  unfold weights
  simp only [hw, ha, hj]

/-- A tile of a grid point's block is the tile of the decoded array. -/
theorem tile_iblk (c : Dev nD) (t : Fin cfg0.N) (h k : ℕ) (hh : h < 2) (hk : k < 64) :
    tile (V m c main_v4) (iblk m c 4 t) (iblk m c 5 t) h k
      = wTile (decoded (V m c main_v4) (V m c main_arg1) (V m c main_arg2)) (2 * t.val + h) k := by
  funext p
  have hp0 : (p 0).val < 256 := (p 0).isLt
  have hp : (p 1).val < 256 := (p 1).isLt
  have ht : t.val < 16 := t.isLt
  unfold tile wTile decoded
  have e1 : (256 * k + (p 0).val) % 16384 = 256 * k + (p 0).val := by omega
  refine weights_congr _ _ _ _ _ _ _ _ _ e1.symm ?_ (fun a => iblk4 m c t a _ _ ?_) (fun a => iblk5 m c t a _ _ ?_)
  · show (256 * h + (p 1).val) % 512 % 128 = (256 * (2 * t.val + h) + (p 1).val) % 8192 % 128
    omega
  · show (256 * (2 * t.val + h) + (p 1).val) % 8192 = 512 * t.val + (256 * h + (p 1).val) % 512
    omega
  · show (256 * (2 * t.val + h) + (p 1).val) % 8192 = 512 * t.val + (256 * h + (p 1).val) % 512
    omega

/-- The result array after the run is the chunked product of the activations and the decoded weights, when the index rows
are the ones that split the byte table into its low and high bytes. -/
theorem final (c : Dev nD)
    (h2 : ∀ (ρ : Fin 32) (l : Fin 128), (V m c main_v16 (ix2 ρ l) : BitVec 8).toNat = 4 * (ρ.val % 16 % 8) + 2 * (ρ.val % 16 / 8))
    (h3 : ∀ (ρ : Fin 32) (l : Fin 128), (V m c main_v21 (ix2 ρ l) : BitVec 8).toNat = 4 * (ρ.val % 16 % 8) + 2 * (ρ.val % 16 / 8) + 1) :
    (dats m 0 c).arrAt 6 cfg0.N
      = product (V m c main_v2) (decoded (V m c main_v4) (V m c main_arg1) (V m c main_arg2)) := by
  refine (dats m 0 c).arrAt_eq_of_covers 6 _ (by decide +kernel) fun t _ y => ?_
  blk_simp
  rw [after0_6]
  unfold outsAt0
  rw [iblk0, iblk1, iblk2, iblk3, point (hx2 := h2) (hx3 := h3)]
  have h0 : (((win0_6.blk t).view.emb y) 0 : ℕ) = (y 0).val := by blk_simp [idx t]
  have h1 : (((win0_6.blk t).view.emb y) 1 : ℕ) = t.val * 512 + (y 1).val := by blk_simp [idx t]
  have hy : (y 1).val < 512 := (y 1).isLt
  unfold product block
  rw [show (((win0_6.blk t).view.emb y) 1 : ℕ) / 256 = 2 * t.val + (y 1).val / 256 by omega]
  rw [acc_congr 64 (fun _ _ => rfl) (fun k hk => tile_iblk m c t _ k (by omega) hk)]
  refine congrArg _ (funext fun a => Fin.ext ?_)
  match a with
  | ⟨0, _⟩ => exact h0.symm
  | ⟨1, _⟩ => show (y 1).val % 256 = (((win0_6.blk t).view.emb y) 1 : ℕ) % 256; omega

end Cert.Kernel.Tile
-- ==== Proof.Nf4.lean ====
module

public import proofs.«01_k».proof.Proof.DecodeValue
public import proofs.«01_k».proof.Proof.Gen.Ordered
public import Idealize.ShloMosaic.Lib.Claim

@[expose] public section

set_option maxRecDepth 16384

noncomputable section

/-! The sixteen NF4 values and their selection by the four bits of a code. -/

namespace Cert.Nf4
open Idealize.ShloMosaic Idealize.ShloMosaic.TcCoe
open Cert.Ordered.Gen (bitsLt_bf16_f32 shapeCasts_S8192x8192_S256x32x8192 bcast_S256x1x8192_S256x32x8192_0_1_2 bcast_S256x8192_S256x1x8192_0_2
  shapeCasts_S256x32x8192_S8192x8192 bcast_S8192x8192_S8192x1x8192_0_2 concatenates_S8192x1x8192_S8192x1x8192_S8192x2x8192_d1
  shapeCasts_S8192x2x8192_S16384x8192 shapeCasts_S16384x8192_S256x16x4x8192 transposes_S256x16x4x8192_S256x4x16x8192_0_2_1_3
  shapeCasts_S256x4x16x8192_S16384x8192 shapeCasts_S48x1x16384_S48x256x16x4 transposes_S48x256x16x4_S48x256x4x16_0_1_3_2
  shapeCasts_S48x256x4x16_S48x16384)

variable {F : FTy → Type} [FloatOps F]

/-- The shape of the packed weights. -/
abbrev B : Shape := ⟨2, ![8192, 8192]⟩

/-- The bit patterns of the sixteen NF4 values in f32, by code. -/
def table : Fin 16 → BitVec 32 :=
  ![0xBF800000#32, 0xBF3239B1#32, 0xBF066B30#32, 0xBECA32A0#32, 0xBE91A24D#32, 0xBE3D353F#32, 0xBDBA7871#32, 0x00000000#32, 0x3DA2FAFF#32, 0x3E24CAE3#32, 0x3E7C04DD#32, 0x3EAD033A#32, 0x3EE1A4B8#32, 0x3F1007AB#32, 0x3F3913B3#32, 0x3F800000#32]

/-- The array holding one f32 pattern everywhere. -/
def const (p : BitVec 32) : FVec F B .f32 := fun _ => FloatOps.ofBits .f32 p

/-- Where the bit `k` of the codes `q` is set. -/
def bit (q : IVec B 32) (k : BitVec 32) : IVec B 1 := cmpi .ne (andi q (fun _ => k)) (fun _ => 0#32)

/-- The NF4 values of the codes `q`, chosen bit by bit from the highest. -/
def lookup (q : IVec B 32) : FVec F B .f32 :=
  select (bit q 8#32)
    (select (bit q 4#32)
      (select (bit q 2#32)
        (select (bit q 1#32) (const 0x3F800000#32) (const 0x3F3913B3#32))
        (select (bit q 1#32) (const 0x3F1007AB#32) (const 0x3EE1A4B8#32)))
      (select (bit q 2#32)
        (select (bit q 1#32) (const 0x3EAD033A#32) (const 0x3E7C04DD#32))
        (select (bit q 1#32) (const 0x3E24CAE3#32) (const 0x3DA2FAFF#32))))
    (select (bit q 4#32)
      (select (bit q 2#32)
        (select (bit q 1#32) (const 0x00000000#32) (const 0xBDBA7871#32))
        (select (bit q 1#32) (const 0xBE3D353F#32) (const 0xBE91A24D#32)))
      (select (bit q 2#32)
        (select (bit q 1#32) (const 0xBECA32A0#32) (const 0xBF066B30#32))
        (select (bit q 1#32) (const 0xBF3239B1#32) (const 0xBF800000#32))))

/-- Is the bit `k` of the code `q` set? -/
def bit1 (q k : BitVec 32) : BitVec 1 := IntOp.cmpi .ne (IntOp.andi q k) 0#32

/-- The same choice, of bit patterns at one code. -/
def pattern (q : BitVec 32) : BitVec 32 :=
  Scalar.select (bit1 q 8#32)
    (Scalar.select (bit1 q 4#32)
      (Scalar.select (bit1 q 2#32)
        (Scalar.select (bit1 q 1#32) 0x3F800000#32 0x3F3913B3#32)
        (Scalar.select (bit1 q 1#32) 0x3F1007AB#32 0x3EE1A4B8#32))
      (Scalar.select (bit1 q 2#32)
        (Scalar.select (bit1 q 1#32) 0x3EAD033A#32 0x3E7C04DD#32)
        (Scalar.select (bit1 q 1#32) 0x3E24CAE3#32 0x3DA2FAFF#32)))
    (Scalar.select (bit1 q 4#32)
      (Scalar.select (bit1 q 2#32)
        (Scalar.select (bit1 q 1#32) 0x00000000#32 0xBDBA7871#32)
        (Scalar.select (bit1 q 1#32) 0xBE3D353F#32 0xBE91A24D#32))
      (Scalar.select (bit1 q 2#32)
        (Scalar.select (bit1 q 1#32) 0xBECA32A0#32 0xBF066B30#32)
        (Scalar.select (bit1 q 1#32) 0xBF3239B1#32 0xBF800000#32)))

/-- Choosing between two decoded patterns is decoding the chosen pattern. -/
theorem select_ofBits (b : BitVec 1) (u v : BitVec 32) :
    Scalar.select b (FloatOps.ofBits (F := F) .f32 u) (FloatOps.ofBits .f32 v)
      = FloatOps.ofBits (F := F) .f32 (Scalar.select (α := BitVec 32) b u v) := by
  unfold Scalar.select; split <;> rfl

/-- The chosen pattern at a code below sixteen is the table's. -/
theorem pattern_eq : ∀ n : Fin 16, pattern (BitVec.ofNat 32 n.val) = table n := by decide

/-- The chosen value at an index whose code is `n` is the table's value `n`. -/
theorem lookup_apply (q : IVec B 32) (p : B.Idx) (n : Fin 16) (h : q p = BitVec.ofNat 32 n.val) :
    lookup (F := F) q p = FloatOps.ofBits .f32 (table n) := by
  have e : lookup (F := F) q p = FloatOps.ofBits .f32 (pattern (q p)) := by
    unfold pattern
    simp only [← select_ofBits]
    rfl
  rw [e, h, pattern_eq]

/-- The low nibble of a byte, as a 32-bit code. -/
theorem low_code (w : BitVec 8) : IntOp.andi (w.setWidth 32) 15#32 = BitVec.ofNat 32 (w.toNat % 16) := by
  revert w; decide

/-- The high nibble of a byte, as a 32-bit code. -/
theorem high_code (w : BitVec 8) : IntOp.shrsi .host (w.setWidth 32) 4#32 = BitVec.ofNat 32 (w.toNat / 16) := by
  have h : IntOp.shrsi .host (w.setWidth 32) 4#32 = (w.setWidth 32).sshiftRight' 4#32 := by
    unfold IntOp.shrsi; rw [if_pos (by decide)]
  rw [h]; revert w; decide

/-- The low codes of the packed weights. -/
def low (wq : IVec B 8) : IVec B 32 := andi (extui 32 wq (by decide)) (fun _ => 15#32)

/-- The high codes of the packed weights. -/
def high (wq : IVec B 8) : IVec B 32 := Host.shrsi (extui 32 wq (by decide)) (fun _ => 4#32)

/-- The decoded weights by scale block. -/
abbrev H : Shape := ⟨3, ![256, 32, 8192]⟩

/-- One half of the weights: the values of the codes `q` times their block's scale, rounded. -/
def half (q : IVec B 32) (a : FVec F ⟨2, ![256, 8192]⟩ .f32) : FVec F B .bf16 :=
  shapeCast B (truncf .bf16 (mulf (shapeCast H (lookup q) shapeCasts_S8192x8192_S256x32x8192)
    (broadcastInDim H ![0, 1, 2] bcast_S256x1x8192_S256x32x8192_0_1_2
      (broadcastInDim (s := ⟨2, ![256, 8192]⟩) ⟨3, ![256, 1, 8192]⟩ ![0, 2] bcast_S256x8192_S256x1x8192_0_2 a)))
    bitsLt_bf16_f32) shapeCasts_S256x32x8192_S8192x8192

/-- The two halves with their rows alternating. -/
def stack (lo hi : FVec F B .bf16) : FVec F ⟨2, ![16384, 8192]⟩ .bf16 :=
  shapeCast _ (concatenate ⟨3, ![8192, 2, 8192]⟩ 1
    [⟨⟨3, ![8192, 1, 8192]⟩, broadcastInDim ⟨3, ![8192, 1, 8192]⟩ ![0, 2] bcast_S8192x8192_S8192x1x8192_0_2 lo⟩,
     ⟨⟨3, ![8192, 1, 8192]⟩, broadcastInDim ⟨3, ![8192, 1, 8192]⟩ ![0, 2] bcast_S8192x8192_S8192x1x8192_0_2 hi⟩]
    concatenates_S8192x1x8192_S8192x1x8192_S8192x2x8192_d1) shapeCasts_S8192x2x8192_S16384x8192

/-- The weights' rows in the kernel's order. -/
def sortRows (W : FVec F ⟨2, ![16384, 8192]⟩ .bf16) : FVec F ⟨2, ![16384, 8192]⟩ .bf16 :=
  shapeCast _ (transpose ⟨4, ![256, 4, 16, 8192]⟩ [0, 2, 1, 3]
    (shapeCast ⟨4, ![256, 16, 4, 8192]⟩ W shapeCasts_S16384x8192_S256x16x4x8192)
    transposes_S256x16x4x8192_S256x4x16x8192_0_2_1_3) shapeCasts_S256x4x16x8192_S16384x8192

/-- The activations' columns in the kernel's order. -/
def sortCols (x : FVec F ⟨3, ![48, 1, 16384]⟩ .bf16) : FVec F ⟨2, ![48, 16384]⟩ .bf16 :=
  shapeCast _ (transpose ⟨4, ![48, 256, 4, 16]⟩ [0, 1, 3, 2]
    (shapeCast ⟨4, ![48, 256, 16, 4]⟩ x shapeCasts_S48x1x16384_S48x256x16x4)
    transposes_S48x256x16x4_S48x256x4x16_0_1_3_2) shapeCasts_S48x256x4x16_S48x16384

/-- The original row of row `r` of the kernel's order. -/
def origin (r : ℕ) : ℕ := 64 * (r / 64) + 4 * (r % 16) + r / 16 % 4

/-- Row `r` of one half is the value of its code times the scale of block `r / 32`, rounded. -/
theorem half_apply (q : IVec B 32) (a : FVec F ⟨2, ![256, 8192]⟩ .f32) (r j : Fin 8192) (b : Fin 256) (hb : b.val = r.val / 32) :
    half q a (ix2 r j) = FloatOps.truncf .bf16 (by decide) (FloatOps.mulf (lookup q (ix2 r j)) (a (ix2 b j))) := by
  unfold half
  rw [shapeCast_apply _ _ (ix2 r j) (ix3 b ⟨r.val % 32, by omega⟩ j : H.Idx) (by
    rw [Shape.rowMajor_val_three, Shape.rowMajor_val_two]
    show (b.val * 32 + r.val % 32) * 8192 + j.val = r.val * 8192 + j.val
    omega)]
  show FloatOps.truncf .bf16 _ (FloatOps.mulf (shapeCast H (lookup q) _ _) (broadcastInDim _ _ _ _ _)) = _
  rw [shapeCast_apply _ _ (ix3 b ⟨r.val % 32, by omega⟩ j : H.Idx) (ix2 r j) (by
    rw [Shape.rowMajor_val_three, Shape.rowMajor_val_two]
    show r.val * 8192 + j.val = (b.val * 32 + r.val % 32) * 8192 + j.val
    omega)]
  rw [broadcastInDim_apply _ _ _ (ix3 b ⟨r.val % 32, by omega⟩ j : H.Idx) (ix3 b 0 j : (⟨3, ![256, 1, 8192]⟩ : Shape).Idx)
    (fun d => by match d with | ⟨0, _⟩ => rfl | ⟨1, _⟩ => rfl | ⟨2, _⟩ => rfl)]
  rw [broadcastInDim_apply _ _ _ (ix3 b 0 j : (⟨3, ![256, 1, 8192]⟩ : Shape).Idx) (ix2 b j)
    (fun d => by match d with | ⟨0, _⟩ => rfl | ⟨1, _⟩ => rfl)]

/-- Even rows of the alternation are the first half's. -/
theorem stack_even (lo hi : FVec F B .bf16) (k : Fin 16384) (r j : Fin 8192) (h : k.val = 2 * r.val) :
    stack lo hi (ix2 k j) = lo (ix2 r j) := by
  unfold stack
  rw [shapeCast_apply _ _ (ix2 k j) (ix3 r (0 : Fin 2) j : (⟨3, ![8192, 2, 8192]⟩ : Shape).Idx) (by
    rw [Shape.rowMajor_val_three, Shape.rowMajor_val_two]
    show (r.val * 2 + 0) * 8192 + j.val = k.val * 8192 + j.val
    omega)]
  rw [concatenate_pair_apply_left (t := ⟨3, ![8192, 2, 8192]⟩) (s₁ := ⟨3, ![8192, 1, 8192]⟩) (s₂ := ⟨3, ![8192, 1, 8192]⟩) 1 _ _ _ _ rfl
    (ix3 r (0 : Fin 1) j : (⟨3, ![8192, 1, 8192]⟩ : Shape).Idx)
    (fun d => by match d with | ⟨0, _⟩ => rfl | ⟨1, _⟩ => rfl | ⟨2, _⟩ => rfl)]
  rw [broadcastInDim_apply _ _ _ (ix3 r (0 : Fin 1) j : (⟨3, ![8192, 1, 8192]⟩ : Shape).Idx) (ix2 r j)
    (fun d => by match d with | ⟨0, _⟩ => rfl | ⟨1, _⟩ => rfl)]

/-- Odd rows of the alternation are the second half's. -/
theorem stack_odd (lo hi : FVec F B .bf16) (k : Fin 16384) (r j : Fin 8192) (h : k.val = 2 * r.val + 1) :
    stack lo hi (ix2 k j) = hi (ix2 r j) := by
  unfold stack
  rw [shapeCast_apply _ _ (ix2 k j) (ix3 r (1 : Fin 2) j : (⟨3, ![8192, 2, 8192]⟩ : Shape).Idx) (by
    rw [Shape.rowMajor_val_three, Shape.rowMajor_val_two]
    show (r.val * 2 + 1) * 8192 + j.val = k.val * 8192 + j.val
    omega)]
  rw [concatenate_pair_apply_right (t := ⟨3, ![8192, 2, 8192]⟩) (s₁ := ⟨3, ![8192, 1, 8192]⟩) (s₂ := ⟨3, ![8192, 1, 8192]⟩) 1 _ _ _ _ rfl rfl
    (ix3 r (0 : Fin 1) j : (⟨3, ![8192, 1, 8192]⟩ : Shape).Idx)
    (fun d hd => by match d with | ⟨0, _⟩ => rfl | ⟨1, _⟩ => exact absurd rfl hd | ⟨2, _⟩ => rfl) rfl]
  rw [broadcastInDim_apply _ _ _ (ix3 r (0 : Fin 1) j : (⟨3, ![8192, 1, 8192]⟩ : Shape).Idx) (ix2 r j)
    (fun d => by match d with | ⟨0, _⟩ => rfl | ⟨1, _⟩ => rfl)]

/-- A row of the sorted weights is the original row it came from. -/
theorem sortRows_apply (W : FVec F ⟨2, ![16384, 8192]⟩ .bf16) (r k : Fin 16384) (j : Fin 8192) (h : k.val = origin r.val) :
    sortRows W (ix2 r j) = W (ix2 k j) := by
  unfold sortRows
  unfold origin at h
  rw [shapeCast_apply _ _ (ix2 r j) (ix4 ⟨r.val / 64, by omega⟩ ⟨r.val / 16 % 4, by omega⟩ ⟨r.val % 16, by omega⟩ j :
      (⟨4, ![256, 4, 16, 8192]⟩ : Shape).Idx) (by
    rw [Shape.rowMajor_val_four, Shape.rowMajor_val_two]
    show ((r.val / 64 * 4 + r.val / 16 % 4) * 16 + r.val % 16) * 8192 + j.val = r.val * 8192 + j.val
    omega)]
  rw [transpose_apply _ _ _ _ (ix4 ⟨r.val / 64, by omega⟩ ⟨r.val % 16, by omega⟩ ⟨r.val / 16 % 4, by omega⟩ j :
      (⟨4, ![256, 16, 4, 8192]⟩ : Shape).Idx)
    (fun d => by match d with | ⟨0, _⟩ => rfl | ⟨1, _⟩ => rfl | ⟨2, _⟩ => rfl | ⟨3, _⟩ => rfl)]
  rw [shapeCast_apply _ _ _ (ix2 k j) (by
    rw [Shape.rowMajor_val_four, Shape.rowMajor_val_two]
    show k.val * 8192 + j.val = ((r.val / 64 * 16 + r.val % 16) * 4 + r.val / 16 % 4) * 8192 + j.val
    omega)]

/-- A column of the sorted activations is the original column it came from. -/
theorem sortCols_apply (x : FVec F ⟨3, ![48, 1, 16384]⟩ .bf16) (i : Fin 48) (r k : Fin 16384) (h : k.val = origin r.val) :
    sortCols x (ix2 i r) = x (ix3 i 0 k) := by
  unfold sortCols
  unfold origin at h
  rw [shapeCast_apply _ _ (ix2 i r) (ix4 i ⟨r.val / 64, by omega⟩ ⟨r.val / 16 % 4, by omega⟩ ⟨r.val % 16, by omega⟩ :
      (⟨4, ![48, 256, 4, 16]⟩ : Shape).Idx) (by
    rw [Shape.rowMajor_val_four, Shape.rowMajor_val_two]
    show ((i.val * 256 + r.val / 64) * 4 + r.val / 16 % 4) * 16 + r.val % 16 = i.val * 16384 + r.val
    omega)]
  rw [transpose_apply _ _ _ _ (ix4 i ⟨r.val / 64, by omega⟩ ⟨r.val % 16, by omega⟩ ⟨r.val / 16 % 4, by omega⟩ :
      (⟨4, ![48, 256, 16, 4]⟩ : Shape).Idx)
    (fun d => by match d with | ⟨0, _⟩ => rfl | ⟨1, _⟩ => rfl | ⟨2, _⟩ => rfl | ⟨3, _⟩ => rfl)]
  rw [shapeCast_apply _ _ _ (ix3 i 0 k) (by
    rw [Shape.rowMajor_val_four, Shape.rowMajor_val_three]
    show (i.val * 1 + 0) * 16384 + k.val = ((i.val * 256 + r.val / 64) * 16 + r.val % 16) * 4 + r.val / 16 % 4
    omega)]

end Cert.Nf4
-- ==== Proof.KernelHost.lean ====
module

public import proofs.«01_k».proof.Proof.KernelFinal
public import proofs.«01_k».proof.Proof.Nf4

@[expose] public section

set_option maxRecDepth 16384
set_option maxHeartbeats 67200000

noncomputable section

/-! The arrays the kernel's windows read, over the program's arguments. -/

namespace Cert.Kernel.Host
open Cert.Kernel Cert.Kernel.Gen Idealize.ShloMosaic Idealize.ShloMosaic.TcCoe Idealize.SL.Sem
open Cert.Nf4

variable {F : FTy → Type} [BitOps F] (m : (ℓ : Loc nD τ sig) → Buf (Elt F) ℓ) (c : Dev nD)

/-- The activations the kernel reads are the argument's, columns sorted. -/
theorem activations : V m c main_v2 = sortCols (V m c main_arg0) := by
  have e : V m c main_v2 = shapeCast S48x16384 (transpose S48x256x4x8x2 [0, 1, 4, 2, 3]
      (shapeCast S48x256x8x2x4 (V m c main_arg0) shapeCasts_S48x1x16384_S48x256x8x2x4)
      transposes_S48x256x8x2x4_S48x256x4x8x2_0_1_4_2_3) shapeCasts_S48x256x4x8x2_S48x16384 := by
    rw [V_main_arg0]
    unfold V
    simp only [List.flatten_cons, List.flatten_nil, List.cons_append, List.nil_append, List.append_nil,
      StableHlo.TRef.nullary, StableHlo.TRef.binary, StableHlo.TRef.ternary, StableHlo.TRef.unary, StableHlo.TRef.toBuf,
      StableHlo.TRef.ofBuf, cast_eq]
    after_results_simp
    rfl
  rw [e]
  generalize V m c main_arg0 = x
  funext p
  obtain ⟨i, r, rfl⟩ : ∃ (i : Fin 48) (r : Fin 16384), p = ix2 i r := ⟨p 0, p 1, by
    funext d; match d with | ⟨0, _⟩ => rfl | ⟨1, _⟩ => rfl⟩
  have hk : origin r.val < 16384 := by unfold origin; omega
  rw [sortCols_apply (F := F) x i r ⟨origin r.val, hk⟩ rfl]
  have h0 : r.val / 64 < 256 := by omega
  have h1 : r.val / 16 % 4 < 4 := by omega
  have h2 : r.val % 16 / 2 < 8 := by omega
  have h3 : r.val % 2 < 2 := by omega
  rw [shapeCast_apply _ _ (ix2 i r) (ix5 i ⟨r.val / 64, h0⟩ ⟨r.val / 16 % 4, h1⟩ ⟨r.val % 16 / 2, h2⟩ ⟨r.val % 2, h3⟩ :
      S48x256x4x8x2.Idx) (by
    rw [Shape.rowMajor_val_five, Shape.rowMajor_val_two]
    show (((i.val * 256 + r.val / 64) * 4 + r.val / 16 % 4) * 8 + r.val % 16 / 2) * 2 + r.val % 2 = i.val * 16384 + r.val
    omega)]
  rw [transpose_apply _ _ _ _ (ix5 i ⟨r.val / 64, h0⟩ ⟨r.val % 16 / 2, h2⟩ ⟨r.val % 2, h3⟩ ⟨r.val / 16 % 4, h1⟩ :
      S48x256x8x2x4.Idx)
    (fun d => by match d with | ⟨0, _⟩ => rfl | ⟨1, _⟩ => rfl | ⟨2, _⟩ => rfl | ⟨3, _⟩ => rfl | ⟨4, _⟩ => rfl)]
  rw [shapeCast_apply _ _ _ (ix3 i 0 ⟨origin r.val, hk⟩) (by
    rw [Shape.rowMajor_val_five, Shape.rowMajor_val_three]
    show (i.val * 1 + 0) * 16384 + origin r.val = (((i.val * 256 + r.val / 64) * 8 + r.val % 16 / 2) * 2 + r.val % 2) * 4 + r.val / 16 % 4
    unfold origin
    omega)]

/-- The table's rows are the sixteen NF4 values, the same on each lane. -/
theorem table_apply (n : Fin 16) (l : Fin 128) : V m c main_v4 (ix2 n l) = (FloatOps.ofBits .f32 (table n) : F .f32) := by
  unfold V
  simp only [List.flatten_cons, List.flatten_nil, List.cons_append, List.nil_append, List.append_nil,
    StableHlo.TRef.nullary, StableHlo.TRef.binary, StableHlo.TRef.ternary, StableHlo.TRef.unary, StableHlo.TRef.toBuf,
    StableHlo.TRef.ofBuf, cast_eq]
  after_results_simp
  refine Eq.trans (broadcastInDim_apply _ _ _ (ix2 n l : S16x128.Idx) (ix2 n 0 : S16x1.Idx)
    (fun d => by match d with | ⟨0, _⟩ => rfl | ⟨1, _⟩ => rfl)) ?_
  refine Eq.trans (broadcastInDim_apply _ _ _ (ix2 n 0 : S16x1.Idx) (ix1 n : S16.Idx)
    (fun d => by match d with | ⟨0, _⟩ => rfl)) ?_
  have h : ∀ n : Fin 16, lit0 (S16.rowMajor (ix1 n : S16.Idx)) = table n := by decide +kernel
  exact congrArg (FloatOps.ofBits .f32) (h n)

/-- An array over the rows repeated along the lanes. -/
theorem rows_apply {α : Type} (v : S32.Idx → α) (ρ : Fin 32) (l : Fin 128) :
    broadcastInDim S32x128 ![0, 1] bcast_S32x1_S32x128_0_1 (broadcastInDim S32x1 ![0] bcast_S32_S32x1_0 v) (ix2 ρ l) = v (ix1 ρ) := by
  rw [broadcastInDim_apply _ _ _ (ix2 ρ l : S32x128.Idx) (ix2 ρ 0 : S32x1.Idx)
    (fun d => by match d with | ⟨0, _⟩ => rfl | ⟨1, _⟩ => rfl)]
  rw [broadcastInDim_apply _ _ _ (ix2 ρ 0 : S32x1.Idx) (ix1 ρ : S32.Idx) (fun d => by match d with | ⟨0, _⟩ => rfl)]

/-- One integer on every row. -/
def every (k : IVec S_ 32) : IVec S32 32 := broadcastInDim S32 ![] bcast_S_S32 k

/-- The remainder of each row's integer by `k`, with the divisor's sign. -/
def remainder (x : IVec S32 32) (k : BitVec 32) : IVec S32 32 :=
  let d := select (cmpi .eq (constantI S_ 32 k) (constantI S_ 32 0#32)) (constantI S_ 32 1#32) (constantI S_ 32 k)
  let r := Host.remsi x (every d)
  select (andi (cmpi .ne (cmpi .slt r (every (constantI S_ 32 0#32)))
      (broadcastInDim S32 ![] bcast_S_S32 (cmpi .slt d (constantI S_ 32 0#32))))
    (cmpi .ne r (every (constantI S_ 32 0#32)))) (addi r (every d)) r

/-- The quotient of each row's integer by `k`, rounded down. -/
def floorDivide (x : IVec S32 32) (k : BitVec 32) : IVec S32 32 :=
  let q := Host.divsi x (every (constantI S_ 32 k))
  select (andi (cmpi .ne (signi x) (every (signi (constantI S_ 32 k))))
    (cmpi .ne (Host.remsi x (every (constantI S_ 32 k))) (every (constantI S_ 32 0#32))))
    (subi q (every (constantI S_ 32 1#32))) q

/-- The even scratch row each row of the result is gathered from. -/
def rows : IVec S32 32 :=
  let u := remainder (iotaInDim S32 32 0) 16#32
  addi (muli (every (constantI S_ 32 4#32)) (remainder u 8#32)) (muli (every (constantI S_ 32 2#32)) (floorDivide u 8#32))

/-- Its value, and that of the odd row after it, as bytes. -/
theorem rows_value : ∀ ρ : Fin 32,
    (trunci 8 rows natLt_8_32 (ix1 ρ)).toNat = 4 * (ρ.val % 16 % 8) + 2 * (ρ.val % 16 / 8)
    ∧ (trunci 8 (addi rows (every (constantI S_ 32 1#32))) natLt_8_32 (ix1 ρ)).toNat
      = 4 * (ρ.val % 16 % 8) + 2 * (ρ.val % 16 / 8) + 1 := by
  decide +kernel

/-- The first index array names, in row `ρ`, the even scratch row `4 (ρ % 16 % 8) + 2 (ρ % 16 / 8)`. -/
theorem even_rows (ρ : Fin 32) (l : Fin 128) :
    (V m c main_v16 (ix2 ρ l) : BitVec 8).toNat = 4 * (ρ.val % 16 % 8) + 2 * (ρ.val % 16 / 8) := by
  have e : V m c main_v16 = broadcastInDim S32x128 ![0, 1] bcast_S32x1_S32x128_0_1
      (broadcastInDim S32x1 ![0] bcast_S32_S32x1_0 (trunci 8 rows natLt_8_32)) := by
    unfold V
    simp only [List.flatten_cons, List.flatten_nil, List.cons_append, List.nil_append, List.append_nil,
      StableHlo.TRef.nullary, StableHlo.TRef.binary, StableHlo.TRef.ternary, StableHlo.TRef.unary, StableHlo.TRef.toBuf,
      StableHlo.TRef.ofBuf, cast_eq]
    after_results_simp
    rfl
  rw [e, rows_apply]
  exact (rows_value ρ).1

/-- The second index array names the odd row after it. -/
theorem odd_rows (ρ : Fin 32) (l : Fin 128) :
    (V m c main_v21 (ix2 ρ l) : BitVec 8).toNat = 4 * (ρ.val % 16 % 8) + 2 * (ρ.val % 16 / 8) + 1 := by
  have e : V m c main_v21 = broadcastInDim S32x128 ![0, 1] bcast_S32x1_S32x128_0_1
      (broadcastInDim S32x1 ![0] bcast_S32_S32x1_0 (trunci 8 (addi rows (every (constantI S_ 32 1#32))) natLt_8_32)) := by
    unfold V
    simp only [List.flatten_cons, List.flatten_nil, List.cons_append, List.nil_append, List.append_nil,
      StableHlo.TRef.nullary, StableHlo.TRef.binary, StableHlo.TRef.ternary, StableHlo.TRef.unary, StableHlo.TRef.toBuf,
      StableHlo.TRef.ofBuf, cast_eq]
    after_results_simp
    rfl
  rw [e, rows_apply]
  exact (rows_value ρ).2

end Cert.Kernel.Host
-- ==== Proof.OrderedTile.lean ====
module

public import proofs.«01_k».proof.Proof.Gen.Ordered.Value
public import proofs.«01_k».proof.Proof.Chunks
public import Idealize.ShloMosaic.Lib.WholeRead

@[expose] public section

set_option maxRecDepth 16384

noncomputable section

/-! What the tiled multiplication leaves in its result array: the chunked product of its two operand arrays. -/

namespace Cert.Ordered.Tile
open Cert.Ordered Cert.Ordered.Gen Idealize.ShloMosaic Idealize.ShloMosaic.TcCoe Idealize.SL.Sem
open Idealize.ShloMosaic.Pipeline (Dat)
open Cert.Chunks

variable {F : FTy → Type} [FloatOps F]

section Loops

variable (c : Dev nD) (i : grid0.Coords)
  (arg1 : Memref sig .tc .vmem S48x16384 .bf16) (harg1 : arg1.IsWhole)
  (arg2 : Memref sig .tc .vmem S16384x512 .bf16) (harg2 : arg2.IsWhole)
  (arg3 : Memref sig .tc .vmem S48x512 .bf16) (harg3 : arg3.IsWhole)
  (x0 : Vec F S48x16384 .bf16) (x1 : Vec F S16384x512 .bf16)

/-- Tile `k` of half `h` of a 512-column weight block: rows `256 k …`, columns `256 h …`. -/
def half (x1 : Vec F S16384x512 .bf16) (h k : ℕ) : Vec F S256x256 .bf16 :=
  fun p => x1 (ix2 (⟨(256 * k + (p 0).val) % 16384, Nat.mod_lt _ (by decide)⟩ : Fin 16384)
    (⟨(256 * h + (p 1).val) % 512, Nat.mod_lt _ (by decide)⟩ : Fin 512))

/-- Both loops run 64 trips. -/
theorem trips1 : k0_t1_loop.trips = 64 := by decide +kernel
theorem trips2 : k0_t2_loop.trips = 64 := by decide +kernel

/-- One trip of the first loop is one accumulation step on the left half. -/
theorem trip1 (k : Fin k0_t1_loop.trips) (a : FVec F S48x256 .f32) :
    tripR_k0_t1 Variants.none c none i arg1 harg1 arg2 harg2 arg3 harg3 (harg1.unread x0) (harg2.unread x1) k a
      = step a (xChunk x0 k) (half x1 0 k) := by
  have hk : k.val < 64 := lt_of_lt_of_le k.isLt k0_t1_abs.2.1
  unfold tripR_k0_t1 trip_k0_t1 k0_pay2
  dsimp only
  rw [shapeCast_self, shapeCast_self]
  unfold step
  congr 2 <;> funext p
  · idx_bounds p
    refine read_unit harg1 x0 (k0_off1_eq k) _ p _ _ ?_ ?_ <;> dsimp only <;> omega
  · idx_bounds p
    refine read_unit harg2 x1 (k0_off2_eq k) _ p _ _ ?_ ?_ <;> dsimp only <;> omega

/-- One trip of the second loop is one accumulation step on the right half. -/
theorem trip2 (k : Fin k0_t2_loop.trips) (a : FVec F S48x256 .f32) :
    tripR_k0_t2 Variants.none c none i arg1 harg1 arg2 harg2 arg3 harg3 (harg1.unread x0) (harg2.unread x1) k a
      = step a (xChunk x0 k) (half x1 1 k) := by
  have hk : k.val < 64 := lt_of_lt_of_le k.isLt k0_t2_abs.2.1
  unfold tripR_k0_t2 trip_k0_t2 k0_pay5
  dsimp only
  rw [shapeCast_self, shapeCast_self]
  unfold step
  congr 2 <;> funext p
  · idx_bounds p
    refine read_unit harg1 x0 (k0_off3_eq k) _ p _ _ ?_ ?_ <;> dsimp only <;> omega
  · idx_bounds p
    refine read_unit harg2 x1 (k0_off4_eq k) _ p _ _ ?_ ?_ <;> dsimp only <;> omega

/-- Before trip `n` the first loop carries the accumulator after `n` steps on the left half. -/
theorem state1 (n : ℕ) (hn : n ≤ 64) :
    st_k0_t1 Variants.none c none i arg1 harg1 arg2 harg2 arg3 harg3 (harg1.unread x0) (harg2.unread x1) k0_pay1 n
      = acc (xChunk x0) (half x1 0) n := by
  induction n with
  | zero => rfl
  | succ n ih =>
    have := st_k0_t1_succ Variants.none c none i arg1 harg1 arg2 harg2 arg3 harg3 (harg1.unread x0) (harg2.unread x1)
      k0_pay1 ⟨n, by rw [trips1]; omega⟩
    rw [this, trip1, ih (by omega)]
    rfl

/-- Before trip `n` the second loop carries the accumulator after `n` steps on the right half. -/
theorem state2 (n : ℕ) (hn : n ≤ 64) :
    st_k0_t2 Variants.none c none i arg1 harg1 arg2 harg2 arg3 harg3 (harg1.unread x0) (harg2.unread x1) k0_pay4 n
      = acc (xChunk x0) (half x1 1) n := by
  induction n with
  | zero => rfl
  | succ n ih =>
    have := st_k0_t2_succ Variants.none c none i arg1 harg1 arg2 harg2 arg3 harg3 (harg1.unread x0) (harg2.unread x1)
      k0_pay4 ⟨n, by rw [trips2]; omega⟩
    rw [this, trip2, ih (by omega)]
    rfl

/-- The block one grid point leaves: each half is the rounded accumulator after 64 steps on that half. -/
theorem point (y : S48x512.Idx) :
    out0_A_2 c i arg1 harg1 arg2 harg2 arg3 harg3 x0 x1 y
      = truncf .bf16 (acc (xChunk x0) (half x1 ((y 1).val / 256)) 64) bitsLt_bf16_f32
          (ix2 (y 0) (⟨(y 1).val % 256, Nat.mod_lt _ (by decide)⟩ : Fin 256)) := by
  unfold out0_A_2
  refine View.read_writes_apply_of_pieces _ _
    (fun y : S48x512.Idx => truncf .bf16 (acc (xChunk x0) (half x1 ((y 1).val / 256)) 64) bitsLt_bf16_f32
          (ix2 (y 0) (⟨(y 1).val % 256, Nat.mod_lt _ (by decide)⟩ : Fin 256)))
    _ ?_ y (cover0_A_2 c i arg1 harg1 arg2 harg2 arg3 harg3 x0 x1 y)
  have h1 : Scf.trips 0#32 (Scalar.addi 0#32 64#32) 1#32 = 64 := by decide +kernel
  unfold kernelRun0_A
  dsimp only
  intro p hp x
  rw [List.mem_cons, List.mem_singleton] at hp
  rcases hp with rfl | rfl
  · dsimp only
    rw [h1, state2 _ _ _ _ _ _ _ _ _ _ _ le_rfl]
    refine pick (fun h => truncf .bf16 (acc (xChunk x0) (half x1 h) 64) bitsLt_bf16_f32) 1 x _ ?_ ?_
    · exact (Rect.idx_unit_val (s := S48x512) _ _ inb_S48x512_S48x256_0_256 x 0).trans (Nat.zero_add _)
    · exact Rect.idx_unit_val (s := S48x512) _ _ inb_S48x512_S48x256_0_256 x 1
  · dsimp only
    rw [h1, state1 _ _ _ _ _ _ _ _ _ _ _ le_rfl]
    refine pick (fun h => truncf .bf16 (acc (xChunk x0) (half x1 h) 64) bitsLt_bf16_f32) 0 x _ ?_ ?_
    · exact (Rect.idx_unit_val (s := S48x512) _ _ inb_S48x512_S48x256_0_0 x 0).trans (Nat.zero_add _)
    · exact (Rect.idx_unit_val (s := S48x512) _ _ inb_S48x512_S48x256_0_0 x 1)

end Loops

variable (m : (ℓ : Loc nD τ sig) → Buf (Elt F) ℓ)

/-- The windows' block indices at each grid point. -/
theorem idx : ∀ t : Fin cfg0.N, win0_0.index t = ![0, 0] ∧ win0_1.index t = ![0, t.val] ∧ win0_2.index t = ![0, t.val] :=
  (by decide +kernel : ∀ t : Fin grid0.N, _)

/-- The activation window's one block is the whole array. -/
theorem iblk0 (c : Dev nD) (t : Fin cfg0.N) : iblk m c 0 t = V m c main_v85 := by
  unfold iblk
  change ((cfg0.win 0).blk t).view.read (Elt F) (V m c main_v85) = V m c main_v85
  generalize V m c main_v85 = X
  blk_ext! [idx t]

/-- Half `h` of the weight window's block at point `t` is the weight array's column block `2 t + h`. -/
theorem half_iblk1 (c : Dev nD) (t : Fin cfg0.N) (h k : ℕ) (hh : h < 2) :
    half (iblk m c 1 t) h k = wTile (V m c main_v88) (2 * t.val + h) k := by
  funext p
  have hp : (p 1).val < 256 := (p 1).isLt
  have ht : t.val < 16 := t.isLt
  unfold half wTile iblk
  change V m c main_v88 (((cfg0.win 1).blk t).view.emb _) = V m c main_v88 _
  generalize V m c main_v88 = X
  refine congrArg X (funext fun a => Fin.ext ?_)
  have h0 : ∀ z : S16384x512.Idx, (((win0_1.blk t).view.emb z) 0 : ℕ) = (z 0).val := fun z => by blk_simp [idx t]
  have h1 : ∀ z : S16384x512.Idx, (((win0_1.blk t).view.emb z) 1 : ℕ) = t.val * 512 + (z 1).val := fun z => by blk_simp [idx t]
  match a with
  | ⟨0, _⟩ => exact h0 _
  | ⟨1, _⟩ =>
    refine (h1 _).trans ?_
    show t.val * 512 + (256 * h + (p 1).val) % 512 = (256 * (2 * t.val + h) + (p 1).val) % 8192
    omega

/-- The result array after the run is the chunked product of the two operand arrays. -/
theorem final (c : Dev nD) :
    (dats m 0 c).arrAt 2 cfg0.N = product (V m c main_v85) (V m c main_v88) := by
  refine (dats m 0 c).arrAt_eq_of_covers 2 _ (by decide +kernel) fun t _ y => ?_
  blk_simp
  rw [after0_2]
  unfold outsAt0
  rw [point, iblk0]
  have h0 : (((win0_2.blk t).view.emb y) 0 : ℕ) = (y 0).val := by blk_simp [idx t]
  have h1 : (((win0_2.blk t).view.emb y) 1 : ℕ) = t.val * 512 + (y 1).val := by blk_simp [idx t]
  have hy : (y 1).val < 512 := (y 1).isLt
  unfold product block
  rw [show (((win0_2.blk t).view.emb y) 1 : ℕ) / 256 = 2 * t.val + (y 1).val / 256 by omega]
  rw [acc_congr 64 (fun _ _ => rfl) (fun k _ => half_iblk1 m c t _ k (by omega))]
  refine congrArg _ (funext fun a => Fin.ext ?_)
  match a with
  | ⟨0, _⟩ => exact h0.symm
  | ⟨1, _⟩ => show (y 1).val % 256 = (((win0_2.blk t).view.emb y) 1 : ℕ) % 256; omega

end Cert.Ordered.Tile
-- ==== Proof.OrderedHost.lean ====
module

public import proofs.«01_k».proof.Proof.OrderedTile
public import proofs.«01_k».proof.Proof.Nf4

@[expose] public section

set_option maxRecDepth 16384
set_option maxHeartbeats 67200000

noncomputable section

/-! The arrays the matrix products read, over the program's arguments. -/

namespace Cert.Ordered.Host
open Cert.Ordered Cert.Ordered.Gen Idealize.ShloMosaic Idealize.ShloMosaic.TcCoe Idealize.SL.Sem
open Cert.Nf4

variable {F : FTy → Type} [FloatOps F] (m : (ℓ : Loc nD τ sig) → Buf (Elt F) ℓ) (c : Dev nD)

/-- The activations the products read are the argument's, columns sorted. -/
theorem activations : V m c main_v85 = sortCols (V m c main_arg0) := by
  rw [V_main_arg0]
  unfold V
  simp only [List.flatten_cons, List.flatten_nil, List.cons_append, List.nil_append, List.append_nil,
    StableHlo.TRef.ternary, StableHlo.TRef.unary, StableHlo.TRef.toBuf, StableHlo.TRef.ofBuf, cast_eq]
  after_results_simp
  rfl

/-- The weights the products read are the two decoded halves, rows alternating and then sorted. -/
theorem weights : V m c main_v88 = sortRows (stack (half (low (V m c main_arg1)) (V m c main_arg2))
    (half (high (V m c main_arg1)) (V m c main_arg2))) := by
  rw [V_main_arg1, V_main_arg2]
  unfold V
  simp only [List.flatten_cons, List.flatten_nil, List.cons_append, List.nil_append, List.append_nil,
    StableHlo.TRef.ternary, StableHlo.TRef.unary, StableHlo.TRef.toBuf, StableHlo.TRef.ofBuf, cast_eq]
  after_results_simp
  rfl

end Cert.Ordered.Host
-- ==== Proof.Bitexact.lean ====
module

public import proofs.«01_k».proof.Defs
public import proofs.«01_k».proof.Proof.Gen.Kernel.Value
public import proofs.«01_k».proof.Proof.Gen.Ordered.Value
public import proofs.«01_k».proof.Proof.KernelHost
public import proofs.«01_k».proof.Proof.OrderedHost

@[expose] public section

set_option maxRecDepth 16384

noncomputable section

/-! The kernel and the ordered program compute the same words. -/

namespace Cert.Bitexact
open Idealize.ShloMosaic Idealize.ShloMosaic.TcCoe Idealize.SL.Sem
open Cert.Nf4 Cert.Chunks
open Cert.Kernel.Decode (nibble)
open Cert.Kernel.Tile (decoded nibble_lt)

/-- The rows' positions: row `r` of the kernel's order is nibble `r / 16 % 2` of packed row `R`. -/
theorem origin_rows (r R : ℕ) (h : R = 32 * (r / 64) + 2 * (r % 16) + r % 64 / 32) :
    origin r = 2 * R + r / 16 % 2 ∧ R / 32 = r / 64 := by
  unfold origin; omega

/-- A decoded weight by its packed row `R`, its scale row `b` and its code `n`. -/
theorem weights_apply (T : Vec Bits Cert.Kernel.S16x128 .f32) (wq : IVec B 8) (ab : FVec Bits ⟨2, ![256, 8192]⟩ .f32)
    (r : ℕ) (j R : Fin 8192) (b : Fin 256) (n : Fin 16) (l : Fin 128) (hR : R.val = 32 * (r / 64) + 2 * (r % 16) + r % 64 / 32)
    (hb : b.val = r / 64) (hn : n.val = nibble (wq (ix2 R j)) (r / 16 % 2)) (hl : l.val = j.val % 128) :
    Cert.Kernel.Tile.weights (F := Bits) T wq ab r j
      = FloatOps.truncf .bf16 (by decide) (FloatOps.mulf (T (ix2 n l)) (ab (ix2 b j))) := by
  have e1 : R = ⟨(32 * (r / 64) + 2 * (r % 16) + r % 64 / 32) % 8192, Nat.mod_lt _ (by decide)⟩ :=
    Fin.ext (by show _ = _ % 8192; have := R.isLt; omega)
  have e2 : b = ⟨r / 64 % 256, Nat.mod_lt _ (by decide)⟩ := Fin.ext (by show _ = _ % 256; have := b.isLt; omega)
  have e3 : n = ⟨nibble (wq (ix2 R j)) (r / 16 % 2) % 16, Nat.mod_lt _ (by decide)⟩ :=
    Fin.ext (hn.trans (Nat.mod_eq_of_lt (nibble_lt _ _)).symm)
  have e4 : l = ⟨j.val % 128, Nat.mod_lt _ (by decide)⟩ := Fin.ext hl
  subst e1 e2 e3 e4
  rfl

/-- The kernel's decoded weights are the two decoded halves, rows alternating and then sorted. -/
theorem decoded_eq (T : Vec Bits Cert.Kernel.S16x128 .f32) (hT : ∀ n l, T (ix2 n l) = (FloatOps.ofBits .f32 (table n) : Bits .f32))
    (wq : IVec B 8) (ab : FVec Bits ⟨2, ![256, 8192]⟩ .f32) :
    decoded T wq ab = sortRows (stack (half (low wq) ab) (half (high wq) ab)) := by
  funext p
  obtain ⟨r, j, rfl⟩ : ∃ (r : Fin 16384) (j : Fin 8192), p = ix2 r j := ⟨p 0, p 1, by
    funext d; match d with | ⟨0, _⟩ => rfl | ⟨1, _⟩ => rfl⟩
  have hr := r.isLt
  have hk : origin r.val < 16384 := by unfold origin; omega
  rw [sortRows_apply _ r ⟨origin r.val, hk⟩ j rfl]
  obtain ⟨R, hR⟩ : ∃ R : Fin 8192, R.val = 32 * (r.val / 64) + 2 * (r.val % 16) + r.val % 64 / 32 :=
    ⟨⟨32 * (r.val / 64) + 2 * (r.val % 16) + r.val % 64 / 32, by omega⟩, rfl⟩
  obtain ⟨b, hb⟩ : ∃ b : Fin 256, b.val = r.val / 64 := ⟨⟨r.val / 64, by omega⟩, rfl⟩
  obtain ⟨ho, h32⟩ := origin_rows r.val R.val hR
  have e : decoded T wq ab (ix2 r j) = FloatOps.truncf .bf16 (by decide)
      (FloatOps.mulf (FloatOps.ofBits .f32 (table ⟨nibble (wq (ix2 R j)) (r.val / 16 % 2), nibble_lt _ _⟩) : Bits .f32) (ab (ix2 b j))) := by
    rw [← hT _ ⟨j.val % 128, Nat.mod_lt _ (by decide)⟩]
    exact weights_apply T wq ab r.val j R b _ _ hR hb rfl rfl
  rw [e]
  rcases Nat.mod_two_eq_zero_or_one (r.val / 16) with h | h
  · rw [stack_even _ _ ⟨origin r.val, hk⟩ R j (by show origin r.val = _; omega), half_apply _ _ R j b (by omega),
      lookup_apply _ _ ⟨nibble (wq (ix2 R j)) 0, nibble_lt _ _⟩ (low_code _)]
    simp only [h]
  · rw [stack_odd _ _ ⟨origin r.val, hk⟩ R j (by show origin r.val = _; omega), half_apply _ _ R j b (by omega),
      lookup_apply _ _ ⟨nibble (wq (ix2 R j)) 1, nibble_lt _ _⟩ (high_code _)]
    simp only [h]

/-- The linear layer both programs compute, over its three arguments. -/
def linear {F : FTy → Type} [FloatOps F] (x : FVec F ⟨3, ![48, 1, 16384]⟩ .bf16) (wq : IVec B 8) (ab : FVec F ⟨2, ![256, 8192]⟩ .f32) :
    Vec F Cert.Ordered.S48x8192 .bf16 :=
  product (sortCols x) (sortRows (stack (half (low wq) ab) (half (high wq) ab)))

/-- The kernel's result is the linear layer of its arguments. -/
theorem kernel_value (m : (ℓ : Loc Cert.Kernel.nD Cert.Kernel.τ Cert.Kernel.sig) → Buf (Elt Bits) ℓ) (c : Dev Cert.Kernel.nD) :
    (Cert.Kernel.Gen.dats m 0 c).arrAt 6 Cert.Kernel.cfg0.N
      = linear (m ((c.tc : Thread Cert.Kernel.nD Cert.Kernel.τ).loc Cert.Kernel.main_arg0))
        (m ((c.tc : Thread Cert.Kernel.nD Cert.Kernel.τ).loc Cert.Kernel.main_arg1))
        (m ((c.tc : Thread Cert.Kernel.nD Cert.Kernel.τ).loc Cert.Kernel.main_arg2)) := by
  rw [Cert.Kernel.Tile.final m c (Cert.Kernel.Host.even_rows m c) (Cert.Kernel.Host.odd_rows m c),
    decoded_eq _ (Cert.Kernel.Host.table_apply m c), Cert.Kernel.Host.activations,
    Cert.Kernel.Gen.V_main_arg0, Cert.Kernel.Gen.V_main_arg1, Cert.Kernel.Gen.V_main_arg2]
  rfl

/-- The ordered program's result is the linear layer of its arguments. -/
theorem ordered_value (m : (ℓ : Loc Cert.Ordered.nD Cert.Ordered.τ Cert.Ordered.sig) → Buf (Elt Bits) ℓ) (c : Dev Cert.Ordered.nD) :
    (Cert.Ordered.Gen.dats m 0 c).arrAt 2 Cert.Ordered.cfg0.N
      = linear (m ((c.tc : Thread Cert.Ordered.nD Cert.Ordered.τ).loc Cert.Ordered.main_arg0))
        (m ((c.tc : Thread Cert.Ordered.nD Cert.Ordered.τ).loc Cert.Ordered.main_arg1))
        (m ((c.tc : Thread Cert.Ordered.nD Cert.Ordered.τ).loc Cert.Ordered.main_arg2)) := by
  rw [Cert.Ordered.Tile.final, Cert.Ordered.Host.activations, Cert.Ordered.Host.weights,
    Cert.Ordered.Gen.V_main_arg0, Cert.Ordered.Gen.V_main_arg1, Cert.Ordered.Gen.V_main_arg2]
  rfl

/-- From memories with the same arguments both programs end with the same result and unchanged arguments. -/
theorem bitexact : Cert.bitexact_Kernel_Ordered := by
  intro m g m' g' _ h
  refine ⟨fun c => linear (m ((c.tc : Thread Cert.Kernel.nD Cert.Kernel.τ).loc Cert.Kernel.main_arg0))
        (m ((c.tc : Thread Cert.Kernel.nD Cert.Kernel.τ).loc Cert.Kernel.main_arg1))
        (m ((c.tc : Thread Cert.Kernel.nD Cert.Kernel.τ).loc Cert.Kernel.main_arg2)), ?_, ?_⟩
  · exact (θ_run _ _ _).mono (fun r hr c => ⟨(hr c).1.trans (kernel_value m c), (hr c).2⟩) (Cert.Kernel.Value.run_blocks m g)
  · refine (θ_run _ _ _).mono (fun r hr c => ⟨(hr c).1.trans ((ordered_value m' c).trans ?_), (hr c).2⟩)
      (Cert.Ordered.Value.run_blocks m' g')
    obtain ⟨h0, h1, h2⟩ := h c
    rw [h0, h1, h2]

end Cert.Bitexact
-- ==== Proof.OrderedIdealTile.lean ====
module

public import proofs.«01_k».proof.Proof.Gen.OrderedIdeal.Value
public import proofs.«01_k».proof.Proof.Chunks
public import Idealize.ShloMosaic.Lib.WholeRead

@[expose] public section

set_option maxRecDepth 16384

noncomputable section

/-! What the tiled multiplication leaves in its result array: the chunked product of its two operand arrays. -/

namespace Cert.OrderedIdeal.Tile
open Cert.OrderedIdeal Cert.OrderedIdeal.Gen Idealize.ShloMosaic Idealize.ShloMosaic.TcCoe Idealize.SL.Sem
open Idealize.ShloMosaic.Pipeline (Dat)
open Cert.Chunks

variable {F : FTy → Type} [FloatOps F]

section Loops

variable (c : Dev nD) (i : grid0.Coords)
  (arg1 : Memref sig .tc .vmem S48x16384 .bf16) (harg1 : arg1.IsWhole)
  (arg2 : Memref sig .tc .vmem S16384x512 .bf16) (harg2 : arg2.IsWhole)
  (arg3 : Memref sig .tc .vmem S48x512 .bf16) (harg3 : arg3.IsWhole)
  (x0 : Vec F S48x16384 .bf16) (x1 : Vec F S16384x512 .bf16)

/-- Tile `k` of half `h` of a 512-column weight block: rows `256 k …`, columns `256 h …`. -/
def half (x1 : Vec F S16384x512 .bf16) (h k : ℕ) : Vec F S256x256 .bf16 :=
  fun p => x1 (ix2 (⟨(256 * k + (p 0).val) % 16384, Nat.mod_lt _ (by decide)⟩ : Fin 16384)
    (⟨(256 * h + (p 1).val) % 512, Nat.mod_lt _ (by decide)⟩ : Fin 512))

/-- Both loops run 64 trips. -/
theorem trips1 : k0_t1_loop.trips = 64 := by decide +kernel
theorem trips2 : k0_t2_loop.trips = 64 := by decide +kernel

/-- One trip of the first loop is one accumulation step on the left half. -/
theorem trip1 (k : Fin k0_t1_loop.trips) (a : FVec F S48x256 .f32) :
    tripR_k0_t1 Variants.none c none i arg1 harg1 arg2 harg2 arg3 harg3 (harg1.unread x0) (harg2.unread x1) k a
      = step a (xChunk x0 k) (half x1 0 k) := by
  have hk : k.val < 64 := lt_of_lt_of_le k.isLt k0_t1_abs.2.1
  unfold tripR_k0_t1 trip_k0_t1 k0_pay2
  dsimp only
  rw [shapeCast_self, shapeCast_self]
  unfold step
  congr 2 <;> funext p
  · idx_bounds p
    refine read_unit harg1 x0 (k0_off1_eq k) _ p _ _ ?_ ?_ <;> dsimp only <;> omega
  · idx_bounds p
    refine read_unit harg2 x1 (k0_off2_eq k) _ p _ _ ?_ ?_ <;> dsimp only <;> omega

/-- One trip of the second loop is one accumulation step on the right half. -/
theorem trip2 (k : Fin k0_t2_loop.trips) (a : FVec F S48x256 .f32) :
    tripR_k0_t2 Variants.none c none i arg1 harg1 arg2 harg2 arg3 harg3 (harg1.unread x0) (harg2.unread x1) k a
      = step a (xChunk x0 k) (half x1 1 k) := by
  have hk : k.val < 64 := lt_of_lt_of_le k.isLt k0_t2_abs.2.1
  unfold tripR_k0_t2 trip_k0_t2 k0_pay5
  dsimp only
  rw [shapeCast_self, shapeCast_self]
  unfold step
  congr 2 <;> funext p
  · idx_bounds p
    refine read_unit harg1 x0 (k0_off3_eq k) _ p _ _ ?_ ?_ <;> dsimp only <;> omega
  · idx_bounds p
    refine read_unit harg2 x1 (k0_off4_eq k) _ p _ _ ?_ ?_ <;> dsimp only <;> omega

/-- Before trip `n` the first loop carries the accumulator after `n` steps on the left half. -/
theorem state1 (n : ℕ) (hn : n ≤ 64) :
    st_k0_t1 Variants.none c none i arg1 harg1 arg2 harg2 arg3 harg3 (harg1.unread x0) (harg2.unread x1) k0_pay1 n
      = acc (xChunk x0) (half x1 0) n := by
  induction n with
  | zero => rfl
  | succ n ih =>
    have := st_k0_t1_succ Variants.none c none i arg1 harg1 arg2 harg2 arg3 harg3 (harg1.unread x0) (harg2.unread x1)
      k0_pay1 ⟨n, by rw [trips1]; omega⟩
    rw [this, trip1, ih (by omega)]
    rfl

/-- Before trip `n` the second loop carries the accumulator after `n` steps on the right half. -/
theorem state2 (n : ℕ) (hn : n ≤ 64) :
    st_k0_t2 Variants.none c none i arg1 harg1 arg2 harg2 arg3 harg3 (harg1.unread x0) (harg2.unread x1) k0_pay4 n
      = acc (xChunk x0) (half x1 1) n := by
  induction n with
  | zero => rfl
  | succ n ih =>
    have := st_k0_t2_succ Variants.none c none i arg1 harg1 arg2 harg2 arg3 harg3 (harg1.unread x0) (harg2.unread x1)
      k0_pay4 ⟨n, by rw [trips2]; omega⟩
    rw [this, trip2, ih (by omega)]
    rfl

/-- The block one grid point leaves: each half is the rounded accumulator after 64 steps on that half. -/
theorem point (y : S48x512.Idx) :
    out0_A_2 c i arg1 harg1 arg2 harg2 arg3 harg3 x0 x1 y
      = truncf .bf16 (acc (xChunk x0) (half x1 ((y 1).val / 256)) 64) bitsLt_bf16_f32
          (ix2 (y 0) (⟨(y 1).val % 256, Nat.mod_lt _ (by decide)⟩ : Fin 256)) := by
  unfold out0_A_2
  refine View.read_writes_apply_of_pieces _ _
    (fun y : S48x512.Idx => truncf .bf16 (acc (xChunk x0) (half x1 ((y 1).val / 256)) 64) bitsLt_bf16_f32
          (ix2 (y 0) (⟨(y 1).val % 256, Nat.mod_lt _ (by decide)⟩ : Fin 256)))
    _ ?_ y (cover0_A_2 c i arg1 harg1 arg2 harg2 arg3 harg3 x0 x1 y)
  have h1 : Scf.trips 0#32 (Scalar.addi 0#32 64#32) 1#32 = 64 := by decide +kernel
  unfold kernelRun0_A
  dsimp only
  intro p hp x
  rw [List.mem_cons, List.mem_singleton] at hp
  rcases hp with rfl | rfl
  · dsimp only
    rw [h1, state2 _ _ _ _ _ _ _ _ _ _ _ le_rfl]
    refine pick (fun h => truncf .bf16 (acc (xChunk x0) (half x1 h) 64) bitsLt_bf16_f32) 1 x _ ?_ ?_
    · exact (Rect.idx_unit_val (s := S48x512) _ _ inb_S48x512_S48x256_0_256 x 0).trans (Nat.zero_add _)
    · exact Rect.idx_unit_val (s := S48x512) _ _ inb_S48x512_S48x256_0_256 x 1
  · dsimp only
    rw [h1, state1 _ _ _ _ _ _ _ _ _ _ _ le_rfl]
    refine pick (fun h => truncf .bf16 (acc (xChunk x0) (half x1 h) 64) bitsLt_bf16_f32) 0 x _ ?_ ?_
    · exact (Rect.idx_unit_val (s := S48x512) _ _ inb_S48x512_S48x256_0_0 x 0).trans (Nat.zero_add _)
    · exact (Rect.idx_unit_val (s := S48x512) _ _ inb_S48x512_S48x256_0_0 x 1)

end Loops

variable (m : (ℓ : Loc nD τ sig) → Buf (Elt F) ℓ)

/-- The windows' block indices at each grid point. -/
theorem idx : ∀ t : Fin cfg0.N, win0_0.index t = ![0, 0] ∧ win0_1.index t = ![0, t.val] ∧ win0_2.index t = ![0, t.val] :=
  (by decide +kernel : ∀ t : Fin grid0.N, _)

/-- The activation window's one block is the whole array. -/
theorem iblk0 (c : Dev nD) (t : Fin cfg0.N) : iblk m c 0 t = V m c main_v85 := by
  unfold iblk
  change ((cfg0.win 0).blk t).view.read (Elt F) (V m c main_v85) = V m c main_v85
  generalize V m c main_v85 = X
  blk_ext! [idx t]

/-- Half `h` of the weight window's block at point `t` is the weight array's column block `2 t + h`. -/
theorem half_iblk1 (c : Dev nD) (t : Fin cfg0.N) (h k : ℕ) (hh : h < 2) :
    half (iblk m c 1 t) h k = wTile (V m c main_v88) (2 * t.val + h) k := by
  funext p
  have hp : (p 1).val < 256 := (p 1).isLt
  have ht : t.val < 16 := t.isLt
  unfold half wTile iblk
  change V m c main_v88 (((cfg0.win 1).blk t).view.emb _) = V m c main_v88 _
  generalize V m c main_v88 = X
  refine congrArg X (funext fun a => Fin.ext ?_)
  have h0 : ∀ z : S16384x512.Idx, (((win0_1.blk t).view.emb z) 0 : ℕ) = (z 0).val := fun z => by blk_simp [idx t]
  have h1 : ∀ z : S16384x512.Idx, (((win0_1.blk t).view.emb z) 1 : ℕ) = t.val * 512 + (z 1).val := fun z => by blk_simp [idx t]
  match a with
  | ⟨0, _⟩ => exact h0 _
  | ⟨1, _⟩ =>
    refine (h1 _).trans ?_
    show t.val * 512 + (256 * h + (p 1).val) % 512 = (256 * (2 * t.val + h) + (p 1).val) % 8192
    omega

/-- The result array after the run is the chunked product of the two operand arrays. -/
theorem final (c : Dev nD) :
    (dats m 0 c).arrAt 2 cfg0.N = product (V m c main_v85) (V m c main_v88) := by
  refine (dats m 0 c).arrAt_eq_of_covers 2 _ (by decide +kernel) fun t _ y => ?_
  blk_simp
  rw [after0_2]
  unfold outsAt0
  rw [point, iblk0]
  have h0 : (((win0_2.blk t).view.emb y) 0 : ℕ) = (y 0).val := by blk_simp [idx t]
  have h1 : (((win0_2.blk t).view.emb y) 1 : ℕ) = t.val * 512 + (y 1).val := by blk_simp [idx t]
  have hy : (y 1).val < 512 := (y 1).isLt
  unfold product block
  rw [show (((win0_2.blk t).view.emb y) 1 : ℕ) / 256 = 2 * t.val + (y 1).val / 256 by omega]
  rw [acc_congr 64 (fun _ _ => rfl) (fun k _ => half_iblk1 m c t _ k (by omega))]
  refine congrArg _ (funext fun a => Fin.ext ?_)
  match a with
  | ⟨0, _⟩ => exact h0.symm
  | ⟨1, _⟩ => show (y 1).val % 256 = (((win0_2.blk t).view.emb y) 1 : ℕ) % 256; omega

end Cert.OrderedIdeal.Tile
-- ==== Proof.OrderedIdealHost.lean ====
module

public import proofs.«01_k».proof.Proof.OrderedIdealTile
public import proofs.«01_k».proof.Proof.Nf4

@[expose] public section

set_option maxRecDepth 16384
set_option maxHeartbeats 67200000

noncomputable section

/-! The arrays the matrix products read, over the program's arguments. -/

namespace Cert.OrderedIdeal.Host
open Cert.OrderedIdeal Cert.OrderedIdeal.Gen Idealize.ShloMosaic Idealize.ShloMosaic.TcCoe Idealize.SL.Sem
open Cert.Nf4

variable {F : FTy → Type} [FloatOps F] (m : (ℓ : Loc nD τ sig) → Buf (Elt F) ℓ) (c : Dev nD)

/-- The activations the products read are the argument's, columns sorted. -/
theorem activations : V m c main_v85 = sortCols (V m c main_arg0) := by
  rw [V_main_arg0]
  unfold V
  simp only [List.flatten_cons, List.flatten_nil, List.cons_append, List.nil_append, List.append_nil,
    StableHlo.TRef.ternary, StableHlo.TRef.unary, StableHlo.TRef.toBuf, StableHlo.TRef.ofBuf, cast_eq]
  after_results_simp
  rfl

/-- The weights the products read are the two decoded halves, rows alternating and then sorted. -/
theorem weights : V m c main_v88 = sortRows (stack (half (low (V m c main_arg1)) (V m c main_arg2))
    (half (high (V m c main_arg1)) (V m c main_arg2))) := by
  rw [V_main_arg1, V_main_arg2]
  unfold V
  simp only [List.flatten_cons, List.flatten_nil, List.cons_append, List.nil_append, List.append_nil,
    StableHlo.TRef.ternary, StableHlo.TRef.unary, StableHlo.TRef.toBuf, StableHlo.TRef.ofBuf, cast_eq]
  after_results_simp
  rfl

end Cert.OrderedIdeal.Host
-- ==== Proof.Algebraic.lean ====
module

public import proofs.«01_k».proof.Defs
public import proofs.«01_k».proof.Proof.Gen.OrderedIdeal.Value
public import proofs.«01_k».proof.Proof.Gen.ReferenceIdeal.Run
public import proofs.«01_k».proof.Proof.OrderedIdealHost
public import proofs.«01_k».proof.Proof.Bitexact
public import Idealize.ShloMosaic.Lib.KernelVsHost
public import Idealize.ShloMosaic.Lib.StackMember

@[expose] public section

set_option maxRecDepth 16384

noncomputable section

/-! In exact arithmetic the ordered program and the reference compute the same linear layer. -/

namespace Cert.Algebraic
open Idealize.ShloMosaic Idealize.ShloMosaic.TcCoe Idealize.SL.Sem
open Cert.Nf4 Cert.Chunks
open Idealize.ShloMosaic.ValueIdx (contrEquiv1 contrEquiv1_symm_val)
open Idealize.ShloMosaic.StackMember (dotGeneral_plain_apply)
open Cert.Bitexact (linear)
open scoped BigOperators

/-- The accumulator after `n` steps is the sum of the `n` chunk products. -/
theorem acc_apply (x : ℕ → Vec Ideal ⟨2, ![48, 256]⟩ .bf16) (w : ℕ → Vec Ideal ⟨2, ![256, 256]⟩ .bf16) (n : ℕ) (i : Fin 48) (j : Fin 256) :
    (acc (F := Ideal) x w n (ix2 i j) : EReal)
      = ∑ k ∈ Finset.range n, ∑ u : Fin 256, (x k (ix2 i u) : EReal) * (w k (ix2 u j) : EReal) := by
  induction n with
  | zero => exact Ideal.ofBits_zero_f32
  | succ n ih =>
    rw [Finset.sum_range_succ, ← ih]
    show (acc (F := Ideal) x w n (ix2 i j) : EReal) + matmul _ none (x n) (w n) (constant _ .f32 0x00000000#32) (ix2 i j) = _
    rw [matmul_zero_eq_dotGeneral]
    exact congrArg (acc (F := Ideal) x w n (ix2 i j) + ·) (dotGeneral_plain_apply none (x n) (w n) i j)

/-- A sum over 64 chunks of 256 is the sum over all 16384. -/
theorem sum_chunks (f : Fin 16384 → EReal) :
    ∑ k ∈ Finset.range 64, ∑ u : Fin 256, f ⟨(256 * k + u.val) % 16384, Nat.mod_lt _ (by decide)⟩ = ∑ r, f r := by
  rw [Finset.sum_range fun k => ∑ u : Fin 256, f ⟨(256 * k + u.val) % 16384, Nat.mod_lt _ (by decide)⟩, ← Fintype.sum_prod_type'
    fun (k : Fin 64) (u : Fin 256) => f ⟨(256 * k.val + u.val) % 16384, Nat.mod_lt _ (by decide)⟩]
  refine Fintype.sum_bijective (fun p : Fin 64 × Fin 256 => (⟨(256 * p.1.val + p.2.val) % 16384, Nat.mod_lt _ (by decide)⟩ : Fin 16384))
    ⟨fun p q h => ?_, fun r => ⟨(⟨r.val / 256, by omega⟩, ⟨r.val % 256, by omega⟩), ?_⟩⟩ _ _ fun _ => rfl
  · have e := congrArg Fin.val h
    obtain ⟨⟨a, ha⟩, ⟨b, hb⟩⟩ := p
    obtain ⟨⟨a', ha'⟩, ⟨b', hb'⟩⟩ := q
    have e' : (256 * a + b) % 16384 = (256 * a' + b') % 16384 := e
    have : a = a' ∧ b = b' := by omega
    obtain ⟨rfl, rfl⟩ := this
    rfl
  · refine Fin.ext ?_
    show (256 * (r.val / 256) + r.val % 256) % 16384 = r.val
    omega

/-- The kernel's order visits every row once. -/
theorem sum_origin (g : Fin 16384 → EReal) (h : ∀ r : Fin 16384, origin r.val < 16384) :
    ∑ r : Fin 16384, g ⟨origin r.val, h r⟩ = ∑ k, g k := by
  refine Function.Bijective.sum_comp (e := fun r : Fin 16384 => (⟨origin r.val, h r⟩ : Fin 16384))
    (Function.Injective.bijective_of_finite fun a b e => ?_) g
  have e' : origin a.val = origin b.val := congrArg Fin.val e
  have lt := a.isLt
  have lt' := b.isLt
  refine Fin.ext ?_
  clear e
  generalize a.val = p at *
  generalize b.val = q at *
  unfold origin at e'
  omega

/-- A sum over all rows is the sum over the even rows plus that over the odd rows. -/
theorem sum_parity (g : Fin 16384 → EReal) :
    ∑ k, g k = (∑ r : Fin 8192, g ⟨2 * r.val, by omega⟩) + ∑ r : Fin 8192, g ⟨2 * r.val + 1, by omega⟩ := by
  refine Eq.trans ?_ (Fintype.sum_sum_type (Sum.elim (fun r : Fin 8192 => g ⟨2 * r.val, by omega⟩) fun r : Fin 8192 => g ⟨2 * r.val + 1, by omega⟩))
  symm
  refine Fintype.sum_bijective (Sum.elim (fun r : Fin 8192 => (⟨2 * r.val, by omega⟩ : Fin 16384)) (fun r : Fin 8192 => ⟨2 * r.val + 1, by omega⟩))
    ⟨fun p q h => ?_, fun k => ?_⟩ _ _ fun z => by rcases z with z | z <;> rfl
  · rcases p with p | p <;> rcases q with q | q <;> have e := congrArg Fin.val h <;> simp only [Sum.elim_inl, Sum.elim_inr] at e
    · exact congrArg Sum.inl (Fin.ext (by omega))
    · omega
    · omega
    · exact congrArg Sum.inr (Fin.ext (by omega))
  · rcases Nat.mod_two_eq_zero_or_one k.val with h | h
    · exact ⟨.inl ⟨k.val / 2, by omega⟩, Fin.ext (by show 2 * (k.val / 2) = k.val; omega)⟩
    · exact ⟨.inr ⟨k.val / 2, by omega⟩, Fin.ext (by show 2 * (k.val / 2) + 1 = k.val; omega)⟩

/-- The product of sorted activations and sorted weights is a sum over the packed rows, low nibbles and high nibbles apart. -/
theorem product_apply (x : FVec Ideal ⟨3, ![48, 1, 16384]⟩ .bf16) (lo hi : FVec Ideal B .bf16) (i : Fin 48) (n : Fin 8192) :
    (product (F := Ideal) (sortCols x) (sortRows (stack lo hi)) (ix2 i n) : EReal)
      = (∑ r : Fin 8192, (x (ix3 i 0 ⟨2 * r.val, by omega⟩) : EReal) * (lo (ix2 r n) : EReal))
        + ∑ r : Fin 8192, (x (ix3 i 0 ⟨2 * r.val + 1, by omega⟩) : EReal) * (hi (ix2 r n) : EReal) := by
  have ho : ∀ r : Fin 16384, origin r.val < 16384 := fun r => by have := r.isLt; unfold origin; omega
  have e : (product (F := Ideal) (sortCols x) (sortRows (stack lo hi)) (ix2 i n) : EReal)
      = ∑ k ∈ Finset.range 64, ∑ u : Fin 256,
        (fun r : Fin 16384 => (sortCols x (ix2 i r) : EReal) * (sortRows (stack lo hi) (ix2 r n) : EReal))
          ⟨(256 * k + u.val) % 16384, Nat.mod_lt _ (by decide)⟩ := by
    refine (acc_apply _ _ 64 i ⟨n.val % 256, Nat.mod_lt _ (by decide)⟩).trans ?_
    refine Finset.sum_congr rfl fun k _ => Finset.sum_congr rfl fun u _ => ?_
    have hn : (⟨(256 * (n.val / 256) + n.val % 256) % 8192, Nat.mod_lt _ (by decide)⟩ : Fin 8192) = n :=
      Fin.ext (by show _ % 8192 = n.val; have := n.isLt; omega)
    show (sortCols x (ix2 i _) : EReal) * (sortRows (stack lo hi) (ix2 _ ⟨(256 * (n.val / 256) + n.val % 256) % 8192, _⟩) : EReal) = _
    rw [hn]
    rfl
  rw [e, sum_chunks fun r : Fin 16384 => (sortCols x (ix2 i r) : EReal) * (sortRows (stack lo hi) (ix2 r n) : EReal)]
  have e2 : ∀ r : Fin 16384, (sortCols x (ix2 i r) : EReal) * (sortRows (stack lo hi) (ix2 r n) : EReal)
      = (fun k : Fin 16384 => (x (ix3 i 0 k) : EReal) * (stack lo hi (ix2 k n) : EReal)) ⟨origin r.val, ho r⟩ := fun r => by
    rw [sortCols_apply x i r ⟨origin r.val, ho r⟩ rfl, sortRows_apply _ r ⟨origin r.val, ho r⟩ n rfl]
  rw [Finset.sum_congr rfl fun r _ => e2 r, sum_origin (fun k : Fin 16384 => (x (ix3 i 0 k) : EReal) * (stack lo hi (ix2 k n) : EReal)) ho, sum_parity]
  refine congrArg₂ (· + ·) (Finset.sum_congr rfl fun r _ => ?_) (Finset.sum_congr rfl fun r _ => ?_)
  · show _ * _ = _
    rw [stack_even lo hi _ r n rfl]
  · show _ * _ = _
    rw [stack_odd lo hi _ r n rfl]

/-- The reference's product of a batch of rows by a matrix, read at an index. -/
theorem dot_apply (a : FVec Ideal ⟨3, ![48, 1, 8192]⟩ .bf16) (b : FVec Ideal B .bf16) (i : Fin 48) (n : Fin 8192) :
    (Host.dotGeneral Cert.ReferenceIdeal.dot_S48x1x8192_S8192x8192_S48x1x8192_2_0_01_1_n_n none a b (ix3 i 0 n) : EReal)
      = ∑ r : Fin 8192, (a (ix3 i 0 r) : EReal) * (b (ix2 r n) : EReal) := by
  show FloatOps.dotGeneral _ none _ a b (ix3 i 0 n) = _
  rw [Ideal.dotGeneral_apply, ← Equiv.sum_comp (contrEquiv1 Cert.ReferenceIdeal.dot_S48x1x8192_S8192x8192_S48x1x8192_2_0_01_1_n_n 8192 rfl rfl).symm]
  refine Finset.sum_congr rfl fun r _ => ?_
  have c2 := contrEquiv1_symm_val Cert.ReferenceIdeal.dot_S48x1x8192_S8192x8192_S48x1x8192_2_0_01_1_n_n 8192 rfl rfl r
  have l2 : Cert.ReferenceIdeal.dot_S48x1x8192_S8192x8192_S48x1x8192_2_0_01_1_n_n.lhsIdx (ix3 i 0 n) ((contrEquiv1 _ 8192 rfl rfl).symm r)
      = (ix3 i 0 r : (⟨3, ![48, 1, 8192]⟩ : Shape).Idx) := by
    funext ax; apply Fin.ext
    match ax with
    | ⟨0, _⟩ => rfl
    | ⟨1, _⟩ => rfl
    | ⟨2, _⟩ => exact c2
  have r2 : Cert.ReferenceIdeal.dot_S48x1x8192_S8192x8192_S48x1x8192_2_0_01_1_n_n.rhsIdx (ix3 i 0 n) ((contrEquiv1 _ 8192 rfl rfl).symm r)
      = (ix2 r n : B.Idx) := by
    funext ax; apply Fin.ext
    match ax with
    | ⟨0, _⟩ => exact c2
    | ⟨1, _⟩ => rfl
  rw [l2, r2]

/-- The reference's result is the linear layer of its arguments. -/
theorem reference_value (m : (ℓ : Loc Cert.ReferenceIdeal.nD Cert.ReferenceIdeal.τ Cert.ReferenceIdeal.sig) → Buf (Elt Ideal) ℓ)
    (c : Dev Cert.ReferenceIdeal.nD) :
    Cert.ReferenceIdeal.Value.res_main_v85 m c
      = linear (F := Ideal) (m ((c.tc : Thread Cert.ReferenceIdeal.nD Cert.ReferenceIdeal.τ).loc Cert.ReferenceIdeal.main_arg0))
        (m ((c.tc : Thread Cert.ReferenceIdeal.nD Cert.ReferenceIdeal.τ).loc Cert.ReferenceIdeal.main_arg1))
        (m ((c.tc : Thread Cert.ReferenceIdeal.nD Cert.ReferenceIdeal.τ).loc Cert.ReferenceIdeal.main_arg2)) := by
  have e : ∃ (s1 : Shape.SlicesBy ⟨3, ![48, 1, 16384]⟩ ![0, 0, 0] ![1, 1, 2] ⟨3, ![48, 1, 8192]⟩)
      (s2 : Shape.SlicesBy ⟨3, ![48, 1, 16384]⟩ ![0, 0, 1] ![1, 1, 2] ⟨3, ![48, 1, 8192]⟩)
      (s3 : Shape.ShapeCasts ⟨3, ![48, 1, 8192]⟩ ⟨2, ![48, 8192]⟩) (s4 : FTy.bf16.bits < FTy.f32.bits),
      Cert.ReferenceIdeal.Value.res_main_v85 m c
        = shapeCast ⟨2, ![48, 8192]⟩ (truncf .bf16 (addf
          (Host.dotGeneral Cert.ReferenceIdeal.dot_S48x1x8192_S8192x8192_S48x1x8192_2_0_01_1_n_n none
            (Host.slice ⟨3, ![48, 1, 8192]⟩ ![0, 0, 0] ![1, 1, 2]
              (m ((c.tc : Thread Cert.ReferenceIdeal.nD Cert.ReferenceIdeal.τ).loc Cert.ReferenceIdeal.main_arg0)) s1)
            (half (F := Ideal) (low (m ((c.tc : Thread Cert.ReferenceIdeal.nD Cert.ReferenceIdeal.τ).loc Cert.ReferenceIdeal.main_arg1)))
              (m ((c.tc : Thread Cert.ReferenceIdeal.nD Cert.ReferenceIdeal.τ).loc Cert.ReferenceIdeal.main_arg2))))
          (Host.dotGeneral Cert.ReferenceIdeal.dot_S48x1x8192_S8192x8192_S48x1x8192_2_0_01_1_n_n none
            (Host.slice ⟨3, ![48, 1, 8192]⟩ ![0, 0, 1] ![1, 1, 2]
              (m ((c.tc : Thread Cert.ReferenceIdeal.nD Cert.ReferenceIdeal.τ).loc Cert.ReferenceIdeal.main_arg0)) s2)
            (half (F := Ideal) (high (m ((c.tc : Thread Cert.ReferenceIdeal.nD Cert.ReferenceIdeal.τ).loc Cert.ReferenceIdeal.main_arg1)))
              (m ((c.tc : Thread Cert.ReferenceIdeal.nD Cert.ReferenceIdeal.τ).loc Cert.ReferenceIdeal.main_arg2))))) s4) s3 :=
    ⟨_, _, _, _, by unfold Cert.ReferenceIdeal.Value.res_main_v85; rfl⟩
  obtain ⟨s1, s2, s3, s4, e⟩ := e
  rw [e]
  unfold linear
  generalize (m ((c.tc : Thread Cert.ReferenceIdeal.nD Cert.ReferenceIdeal.τ).loc Cert.ReferenceIdeal.main_arg0)) = x
  generalize half (F := Ideal) (low _) _ = lo
  generalize half (F := Ideal) (high _) _ = hi
  clear e
  funext p
  obtain ⟨i, n, rfl⟩ : ∃ (i : Fin 48) (n : Fin 8192), p = ix2 i n := ⟨p 0, p 1, by
    funext d; match d with | ⟨0, _⟩ => rfl | ⟨1, _⟩ => rfl⟩
  refine Eq.trans ?_ (product_apply x lo hi i n).symm
  rw [shapeCast_apply _ _ (ix2 i n) (ix3 i 0 n : (⟨3, ![48, 1, 8192]⟩ : Shape).Idx) (by
    rw [Shape.rowMajor_val_three, Shape.rowMajor_val_two]
    show (i.val * 1 + 0) * 8192 + n.val = i.val * 8192 + n.val
    omega)]
  show (Host.dotGeneral _ none _ lo (ix3 i 0 n) : EReal) + (Host.dotGeneral _ none _ hi (ix3 i 0 n) : EReal) = _
  rw [dot_apply, dot_apply]
  refine congrArg₂ (· + ·) (Finset.sum_congr rfl fun r _ => congrArg (fun z : EReal => z * _) (congrArg x ?_))
    (Finset.sum_congr rfl fun r _ => congrArg (fun z : EReal => z * _) (congrArg x ?_))
  · funext d; apply Fin.ext
    match d with
    | ⟨0, _⟩ => show 0 + 1 * i.val = i.val; omega
    | ⟨1, _⟩ => rfl
    | ⟨2, _⟩ => show 0 + 2 * r.val = 2 * r.val; omega
  · funext d; apply Fin.ext
    match d with
    | ⟨0, _⟩ => show 0 + 1 * i.val = i.val; omega
    | ⟨1, _⟩ => rfl
    | ⟨2, _⟩ => show 1 + 2 * r.val = 2 * r.val + 1; omega

/-- The ordered program's result is the linear layer of its arguments. -/
theorem ordered_value (m : (ℓ : Loc Cert.OrderedIdeal.nD Cert.OrderedIdeal.τ Cert.OrderedIdeal.sig) → Buf (Elt Ideal) ℓ) (c : Dev Cert.OrderedIdeal.nD) :
    (Cert.OrderedIdeal.Gen.dats m 0 c).arrAt 2 Cert.OrderedIdeal.cfg0.N
      = linear (F := Ideal) (m ((c.tc : Thread Cert.OrderedIdeal.nD Cert.OrderedIdeal.τ).loc Cert.OrderedIdeal.main_arg0))
        (m ((c.tc : Thread Cert.OrderedIdeal.nD Cert.OrderedIdeal.τ).loc Cert.OrderedIdeal.main_arg1))
        (m ((c.tc : Thread Cert.OrderedIdeal.nD Cert.OrderedIdeal.τ).loc Cert.OrderedIdeal.main_arg2)) := by
  rw [Cert.OrderedIdeal.Tile.final, Cert.OrderedIdeal.Host.activations, Cert.OrderedIdeal.Host.weights,
    Cert.OrderedIdeal.Gen.V_main_arg0, Cert.OrderedIdeal.Gen.V_main_arg1, Cert.OrderedIdeal.Gen.V_main_arg2]
  rfl

/-- In exact arithmetic, from memories with the same arguments both programs end with the same result and unchanged arguments. -/
theorem algebraic : Cert.algebraic_OrderedIdeal_ReferenceIdeal := by
  intro m g m' g' _ h
  refine ⟨fun c => linear (F := Ideal) (m ((c.tc : Thread Cert.OrderedIdeal.nD Cert.OrderedIdeal.τ).loc Cert.OrderedIdeal.main_arg0))
        (m ((c.tc : Thread Cert.OrderedIdeal.nD Cert.OrderedIdeal.τ).loc Cert.OrderedIdeal.main_arg1))
        (m ((c.tc : Thread Cert.OrderedIdeal.nD Cert.OrderedIdeal.τ).loc Cert.OrderedIdeal.main_arg2)), ?_, ?_⟩
  · exact (θ_run _ _ _).mono (fun r hr c => ⟨(hr c).1.trans (ordered_value m c), (hr c).2⟩) (Cert.OrderedIdeal.Value.run_blocks m g)
  · refine (θ_run _ _ _).mono (fun r hr c => ⟨(hr c).1.trans ((reference_value m' c).trans ?_), (hr c).2⟩)
      (Cert.ReferenceIdeal.Value.run m' g')
    obtain ⟨h0, h1, h2⟩ := h c
    rw [h0, h1, h2]

end Cert.Algebraic
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.Ordered
public import proofs.«01_k».proof.Proof.Gen.Ordered.Skeleton
public import proofs.«01_k».proof.Proof.Gen.Ordered.Loops
public import proofs.«01_k».proof.Proof.Gen.Ordered.Launch
public import proofs.«01_k».proof.Proof.Gen.Ordered.Points
public import proofs.«01_k».proof.Proof.Gen.Ordered.Frame
public import proofs.«01_k».proof.Proof.Gen.OrderedIdeal
public import proofs.«01_k».proof.Proof.Gen.OrderedIdeal.Skeleton
public import proofs.«01_k».proof.Proof.Gen.OrderedIdeal.Loops
public import proofs.«01_k».proof.Proof.Gen.OrderedIdeal.Launch
public import proofs.«01_k».proof.Proof.Gen.OrderedIdeal.Points
public import proofs.«01_k».proof.Proof.Gen.OrderedIdeal.Frame
public import proofs.«01_k».proof.Proof.Gen.ReferenceIdeal
public import proofs.«01_k».proof.Proof.Gen.Kernel.Value
public import proofs.«01_k».proof.Proof.Gen.Ordered.Value
public import proofs.«01_k».proof.Proof.Gen.OrderedIdeal.Value
public import proofs.«01_k».proof.Proof.Gen.ReferenceIdeal.Run
public import proofs.«01_k».proof.Proof.Bitexact
public import proofs.«01_k».proof.Proof.Algebraic
public import Idealize.ShloMosaic.Adequacy
public import Idealize.ShloMosaic.Init
public import Idealize.ShloMosaic.Lib.Quiescent

@[expose] public section

noncomputable section

namespace Cert.Proof

open Idealize.ShloMosaic Idealize.SL.Sem Cert.Kernel

/-- In exact arithmetic the reference terminates, leaves its arguments unchanged and ends with every counter at zero. -/
theorem reference_frame : Cert.quiescent_ReferenceIdeal := by
  intro m g _
  exact (θ_run Cert.ReferenceIdeal.defs _ _).mono (fun r h => ⟨fun c => (h c).2, sem_eq_zero_of_no_sems (by decide) r.2⟩)
    (Cert.ReferenceIdeal.Value.run m g)

/-- The three programs run and leave their arguments unchanged; the kernel and the ordered program give the same words;
in exact arithmetic the ordered program and the reference give the same array. -/
theorem claim : Cert.Claim := ⟨Cert.Kernel.Gen.facts, Cert.Ordered.Gen.facts, Cert.OrderedIdeal.Gen.facts, Cert.ReferenceIdeal.Gen.facts,
  fun m ρ _ => Cert.Kernel.Gen.frame m ρ, fun m ρ _ => Cert.Ordered.Gen.frame m ρ, fun m ρ _ => Cert.OrderedIdeal.Gen.frame m ρ,
  reference_frame, Cert.Bitexact.bitexact, trivial, Cert.Algebraic.algebraic⟩

end Cert.Proof

end
